-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x4096 : Shape := ⟨2, ![2048, 4096]⟩
abbrev S64x8192 : Shape := ⟨2, ![64, 8192]⟩
abbrev S16384x2048 : Shape := ⟨2, ![16384, 2048]⟩
abbrev S16384x8192 : Shape := ⟨2, ![16384, 8192]⟩
abbrev S64x2x128 : Shape := ⟨3, ![64, 2, 128]⟩
abbrev S256x2048 : Shape := ⟨2, ![256, 2048]⟩
abbrev S256x8192 : Shape := ⟨2, ![256, 8192]⟩
abbrev S1x2x128 : Shape := ⟨3, ![1, 2, 128]⟩
abbrev S2048x8192 : Shape := ⟨2, ![2048, 8192]⟩
abbrev S2048x256 : Shape := ⟨2, ![2048, 256]⟩
abbrev S512x256 : Shape := ⟨2, ![512, 256]⟩
abbrev S64x256 : Shape := ⟨2, ![64, 256]⟩
abbrev S64x1x256 : Shape := ⟨3, ![64, 1, 256]⟩
abbrev S64x8x256 : Shape := ⟨3, ![64, 8, 256]⟩
abbrev S1024x256 : Shape := ⟨2, ![1024, 256]⟩
abbrev S64x1x16x256 : Shape := ⟨4, ![64, 1, 16, 256]⟩
abbrev S64x2x16x256 : Shape := ⟨4, ![64, 2, 16, 256]⟩
abbrev S256 : Shape := ⟨1, ![256]⟩
abbrev S256x1 : Shape := ⟨2, ![256, 1]⟩
abbrev S1x255 : Shape := ⟨2, ![1, 255]⟩
abbrev S256x255 : Shape := ⟨2, ![256, 255]⟩
abbrev S256x128 : Shape := ⟨2, ![256, 128]⟩
abbrev S2x128x128 : Shape := ⟨3, ![2, 128, 128]⟩
abbrev S2x128 : Shape := ⟨2, ![2, 128]⟩
abbrev S2048x1024 : Shape := ⟨2, ![2048, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S2048x4096, .i8⟩
  | .hbm, ⟨2, _⟩ => ⟨S64x8192, .i8⟩
  | .hbm, ⟨3, _⟩ => ⟨S16384x2048, .bf16⟩
  | .hbm, ⟨4, _⟩ => ⟨S16384x8192, .bf16⟩
  | .hbm, ⟨5, _⟩ => ⟨S16384x2048, .fp8e4m3⟩
  | .hbm, ⟨6, _⟩ => ⟨S64x2x128, .f32⟩
  | .local _ .vmem, ⟨0, _⟩ => ⟨S256x2048, .bf16⟩
  | .local _ .vmem, ⟨1, _⟩ => ⟨S256x2048, .bf16⟩
  | .local _ .vmem, ⟨2, _⟩ => ⟨S2048x4096, .i8⟩
  | .local _ .vmem, ⟨3, _⟩ => ⟨S64x8192, .i8⟩
  | .local _ .vmem, ⟨4, _⟩ => ⟨S256x8192, .bf16⟩
  | .local _ .vmem, ⟨5, _⟩ => ⟨S256x8192, .bf16⟩
  | .local _ .vmem, ⟨6, _⟩ => ⟨S256x2048, .fp8e4m3⟩
  | .local _ .vmem, ⟨7, _⟩ => ⟨S256x2048, .fp8e4m3⟩
  | .local _ .vmem, ⟨8, _⟩ => ⟨S1x2x128, .f32⟩
  | .local _ .vmem, ⟨9, _⟩ => ⟨S1x2x128, .f32⟩
  | .local _ .vmem, ⟨10, _⟩ => ⟨S2048x8192, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x2048 : Shape := ⟨3, ![4, 4096, 2048]⟩
abbrev S2048x4096 : Shape := ⟨2, ![2048, 4096]⟩
abbrev S64x8192 : Shape := ⟨2, ![64, 8192]⟩
abbrev S16384x2048 : Shape := ⟨2, ![16384, 2048]⟩
abbrev S16384x8192 : Shape := ⟨2, ![16384, 8192]⟩
abbrev S64x2x128 : Shape := ⟨3, ![64, 2, 128]⟩
abbrev S16384 : Shape := ⟨1, ![16384]⟩
abbrev S16384x1 : Shape := ⟨2, ![16384, 1]⟩
abbrev S1x253 : Shape := ⟨2, ![1, 253]⟩
abbrev S16384x253 : Shape := ⟨2, ![16384, 253]⟩
abbrev S64x4096 : Shape := ⟨2, ![64, 4096]⟩
abbrev S64x1x4096 : Shape := ⟨3, ![64, 1, 4096]⟩
abbrev S64x32x4096 : Shape := ⟨3, ![64, 32, 4096]⟩
abbrev S16384x4096 : Shape := ⟨2, ![16384, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .bf16⟩
  | .hbm, ⟨1, _⟩ => ⟨S2048x4096, .i8⟩
  | .hbm, ⟨2, _⟩ => ⟨S64x8192, .i8⟩
  | .hbm, ⟨3, _⟩ => ⟨S16384x2048, .bf16⟩
  | .hbm, ⟨4, _⟩ => ⟨S16384x8192, .bf16⟩
  | .hbm, ⟨5, _⟩ => ⟨S16384x2048, .fp8e4m3⟩
  | .hbm, ⟨6, _⟩ => ⟨S64x2x128, .f32⟩
  | .local _ .vmem, ⟨0, _⟩ => ⟨S16384x2048, .bf16⟩
  | .local _ .vmem, ⟨1, _⟩ => ⟨S2048x4096, .i8⟩
  | .local _ .vmem, ⟨2, _⟩ => ⟨S64x8192, .i8⟩
  | .local _ .vmem, ⟨3, _⟩ => ⟨S16384x8192, .bf16⟩
  | .local _ .vmem, ⟨4, _⟩ => ⟨S16384x2048, .fp8e4m3⟩
  | .local _ .vmem, ⟨5, _⟩ => ⟨S64x2x128, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Numbers.lean ====
module

public import Idealize.ShloMosaic.Lib.Pointwise
public import Idealize.ShloMosaic.Lib.WordCmp

/-! Facts about single numbers: powers of two as words and as values, and the exponent of a number found in two ways.

The kernel writes a power of two by placing its biased exponent in the exponent field of a word; the reference takes
two to the exponent, with zero below the normal range and infinity above it. The kernel finds the exponent of a number
by counting the powers of two that it reaches; the reference takes the least exponent whose power exceeds it. -/

@[expose] public section

set_option maxRecDepth 16384

noncomputable section

open Idealize.ShloMosaic

namespace Cert.Hand

/-! ### Constants -/

/-- A pattern of a format with eight exponent bits, with an exponent field in the normal range. -/
theorem ieee_normal (f : ℕ) {w : ℕ} (b : BitVec w) (s : Bool) (ex fr : ℕ) (h1 : (b.extractLsb' (8 + f) 1 == 1#1) = s)
    (h2 : (b.extractLsb' f 8).toNat = ex) (h3 : (b.extractLsb' 0 f).toNat = fr) (h0 : ex ≠ 0) (h4 : ex < 255) :
    Ideal.ieee 8 f b = (((if s then -1 else 1) * (2 ^ f + fr : ℕ) * (2 : ℝ) ^ ((ex : ℤ) - 127 - f) : ℝ) : EReal) := by
  unfold Ideal.ieee
  simp only [h1, h2, h3]
  rw [if_neg (by omega), if_neg h0]
  rfl

theorem c_m126 : Ideal.ofBits .f32 0xC2FC0000#32 = (((-126 : ℤ) : ℝ) : EReal) := by
  refine (ieee_normal 23 0xC2FC0000#32 true 133 0x7C0000 (by decide) (by decide) (by decide) (by decide) (by decide)).trans ?_
  norm_num [zpow_neg]
theorem c_127 : Ideal.ofBits .f32 0x42FE0000#32 = (((127 : ℤ) : ℝ) : EReal) := by
  refine (ieee_normal 23 0x42FE0000#32 false 133 0x7E0000 (by decide) (by decide) (by decide) (by decide) (by decide)).trans ?_
  norm_num [zpow_neg]
theorem c_125 : Ideal.ofBits .f32 0x42FA0000#32 = (((125 : ℤ) : ℝ) : EReal) := by
  refine (ieee_normal 23 0x42FA0000#32 false 133 0x7A0000 (by decide) (by decide) (by decide) (by decide) (by decide)).trans ?_
  norm_num [zpow_neg]
theorem c_128 : Ideal.ofBits .f32 0x43000000#32 = (((128 : ℤ) : ℝ) : EReal) := by
  refine (ieee_normal 23 0x43000000#32 false 134 0 (by decide) (by decide) (by decide) (by decide) (by decide)).trans ?_
  norm_num [zpow_neg]
theorem c_top : Ideal.ofBits .f32 0x7F800000#32 = ⊤ := by
  simp [Ideal.ofBits, Ideal.ieee]

/-! ### Powers of two -/

/-- The value of the word whose exponent field is `m` and whose other bits are zero. -/
def P (m : ℕ) : EReal := if m = 0 then 0 else if 255 ≤ m then ⊤ else (((2 : ℝ) ^ ((m : ℤ) - 127) : ℝ) : EReal)

theorem P_of_mid {m : ℕ} (h0 : m ≠ 0) (h1 : m < 255) : P m = (((2 : ℝ) ^ ((m : ℤ) - 127) : ℝ) : EReal) := by
  rw [P, if_neg h0, if_neg (by omega)]

/-- A pattern with sign and fraction zero and exponent field `m`, in a format with eight exponent bits. -/
private theorem ieee_field (f : ℕ) {w : ℕ} (b : BitVec w) (m : ℕ) (h : m < 256) (h1 : (b.extractLsb' (8 + f) 1 == 1#1) = false)
    (h2 : (b.extractLsb' f 8).toNat = m) (h3 : (b.extractLsb' 0 f).toNat = 0) : Ideal.ieee 8 f b = P m := by
  unfold P
  rcases Nat.lt_or_ge m 255 with h' | h'
  · rcases Nat.eq_zero_or_pos m with rfl | h0
    · unfold Ideal.ieee
      simp only [h1, h2, h3]
      norm_num
    · rw [ieee_normal f b false m 0 h1 h2 h3 (by omega) h', if_neg (show ¬(false = true) by decide), if_neg (by omega), if_neg (by omega)]
      congr 1
      push_cast
      rw [one_mul, add_zero, ← zpow_natCast, ← zpow_add₀ (by norm_num)]
      congr 1; ring
  · obtain rfl : m = 255 := by omega
    unfold Ideal.ieee
    simp only [h1, h2, h3]
    norm_num

private theorem f32_fields : ∀ m : Fin 256,
    (((BitVec.ofNat 32 m.val) <<< 23).extractLsb' 31 1 == 1#1) = false ∧
    (((BitVec.ofNat 32 m.val) <<< 23).extractLsb' 23 8).toNat = m.val ∧
    (((BitVec.ofNat 32 m.val) <<< 23).extractLsb' 0 23).toNat = 0 := by decide +kernel

/-- The single-precision word with exponent field `m`. -/
theorem ofBits_f32_field (m : ℕ) (h : m < 256) : Ideal.ofBits .f32 (BitVec.ofNat 32 m <<< 23) = P m :=
  have hf := f32_fields ⟨m, h⟩
  ieee_field 23 _ m h hf.1 hf.2.1 hf.2.2

private theorem bf16_fields : ∀ m : Fin 256,
    (((BitVec.ofNat 16 m.val) <<< 7).extractLsb' 15 1 == 1#1) = false ∧
    (((BitVec.ofNat 16 m.val) <<< 7).extractLsb' 7 8).toNat = m.val ∧
    (((BitVec.ofNat 16 m.val) <<< 7).extractLsb' 0 7).toNat = 0 := by decide +kernel

/-- The bfloat16 word with exponent field `m`. -/
theorem ofBits_bf16_field (m : ℕ) (h : m < 256) : Ideal.ofBits .bf16 (BitVec.ofNat 16 m <<< 7) = P m :=
  have hf := bf16_fields ⟨m, h⟩
  ieee_field 7 _ m h hf.1 hf.2.1 hf.2.2

/-- Two to the power `e`, with zero below the exponent -126 and infinity above 127. -/
def ldexp1 (e : EReal) : EReal :=
  if e < Ideal.ofBits .f32 0xC2FC0000#32 then 0
  else if Ideal.ofBits .f32 0x42FE0000#32 < e then Ideal.ofBits .f32 0x7F800000#32
  else FloatOps.exp2 (F := Ideal) (φ := .f32) e

theorem ldexp1_int (z : ℤ) :
    ldexp1 ((z : ℝ) : EReal) = if z < -126 then 0 else if 127 < z then ⊤ else (((2 : ℝ) ^ z : ℝ) : EReal) := by
  have he : FloatOps.exp2 (F := Ideal) (φ := .f32) ((z : ℝ) : EReal) = (((2 : ℝ) ^ z : ℝ) : EReal) := by
    show (((Real.rpow 2 (z : ℝ)) : ℝ) : EReal) = _
    congr 1
    exact Real.rpow_intCast 2 z
  rw [ldexp1, c_m126, c_127, c_top, he]
  simp only [EReal.coe_lt_coe_iff, Int.cast_lt]

/-- Two to the power `m - 127` is the word with exponent field `m`. -/
theorem ldexp1_field (m : ℕ) (h : m < 256) : ldexp1 ((((m : ℤ) - 127 : ℤ) : ℝ) : EReal) = P m := by
  rw [ldexp1_int, P]
  rcases Nat.eq_zero_or_pos m with rfl | h0
  · norm_num
  · rw [if_neg (by omega), if_neg (c := m = 0) (by omega)]
    by_cases h' : 255 ≤ m
    · rw [if_pos (by omega), if_pos h']
    · rw [if_neg (by omega), if_neg h']

/-- Every exponent below -126 gives zero. -/
theorem ldexp1_small (z : ℤ) (h : z < -126) : ldexp1 ((z : ℝ) : EReal) = P 0 := by
  rw [ldexp1_int, if_pos h, P, if_pos rfl]

/-! ### The exponent of a number -/

theorem P_lt_P {m n : ℕ} (h1 : 1 ≤ m) (h : m < n) (hn : n < 256) : P m < P n := by
  rw [P_of_mid (by omega) (by omega)]
  by_cases h' : n = 255
  · subst h'; exact EReal.coe_lt_top _
  · rw [P_of_mid (by omega) (by omega), EReal.coe_lt_coe_iff]
    exact zpow_lt_zpow_right₀ (by norm_num) (by omega)

theorem P_le_P {m n : ℕ} (h1 : 1 ≤ m) (h : m ≤ n) (hn : n < 256) : P m ≤ P n := by
  rcases Nat.lt_or_ge m n with h' | h'
  · exact (P_lt_P h1 h' hn).le
  · obtain rfl : m = n := by omega
    exact le_rfl

/-- The number of powers of two, from the least normal one to infinity, that `v` reaches. -/
theorem exists_count (v : EReal) : ∃ n : ℕ, n ≤ 255 ∧ ∀ k, 1 ≤ k → k ≤ 255 → (P k ≤ v ↔ k ≤ n) := by
  classical
  refine ⟨Nat.findGreatest (fun k => 1 ≤ k ∧ P k ≤ v) 255, Nat.findGreatest_le _, fun k h1 h2 => ⟨fun h => ?_, fun h => ?_⟩⟩
  · exact Nat.le_findGreatest h2 ⟨h1, h⟩
  · have h0 : Nat.findGreatest (fun k => 1 ≤ k ∧ P k ≤ v) 255 ≠ 0 := by omega
    obtain ⟨h3, h4⟩ := Nat.findGreatest_of_ne_zero (P := fun k => 1 ≤ k ∧ P k ≤ v) rfl h0
    exact (P_le_P h1 h (by have := Nat.findGreatest_le (P := fun k => 1 ≤ k ∧ P k ≤ v) 255; omega)).trans h4

/-- The exponent that belongs to a count: zero at the two ends (a number below the normal range, or infinite). -/
def expOf (n : ℕ) : ℤ := if n = 0 ∨ n = 255 then 0 else (n : ℤ) - 126

/-- The exponent word of the kernel, of a number. -/
def expKer (v : EReal) : BitVec 32 :=
  have c : BitVec 32 := FloatOps.fptosi (F := Ideal) (φ := .f32) 32 (∑ k : Fin 255,
      if Ideal.ofBits .f32 (IntOp.shli .vector (IntOp.addi (BitVec.ofNat 32 k.val) 1#32) 23#32) ≤ v then (1 : EReal) else 0)
  Scalar.select (IntOp.ori (IntOp.cmpi .eq c 0#32) (IntOp.cmpi .eq c 255#32)) 0#32 (IntOp.subi c 126#32)

/-- The threshold exponents of the reference: -125 to 127. -/
def thrExp (k : Fin 253) : EReal :=
  FloatOps.sitofp (F := Ideal) .f32 (BitVec.ofNat 32 k.val) - Ideal.ofBits .f32 0x42FA0000#32

/-- The exponent of the reference, of a number. -/
def expRef (v : EReal) : EReal :=
  if v < Ideal.ofBits .f32 0x00800000#32 ∨ v = Ideal.ofBits .f32 0x7F800000#32 then 0
  else Finset.univ.fold min (Ideal.ofBits .f32 0x7F800000#32) fun k : Fin 253 =>
    if v < ldexp1 (thrExp k) then thrExp k else Ideal.ofBits .f32 0x43000000#32

private theorem count_sum (n : ℕ) (h : n ≤ 255) (p : Fin 255 → Prop) [DecidablePred p] (hp : ∀ k : Fin 255, p k ↔ k.val + 1 ≤ n) :
    (∑ k : Fin 255, if p k then (1 : EReal) else 0) = ((n : ℝ) : EReal) := by
  rw [Finset.sum_ite, Finset.sum_const_zero, add_zero, Finset.sum_const, EReal.nsmul_eq_mul, mul_one]
  rw [show ((n : ℝ) : EReal) = (n : EReal) from rfl]
  congr 1
  have : (Finset.univ.filter p) = Finset.univ.filter (fun k : Fin 255 => k.val < n) := by
    ext k; simp only [Finset.mem_filter, Finset.mem_univ, true_and, hp]; omega
  rw [this, Fin.card_filter_val_lt]
  omega

private theorem shift_word : ∀ k : Fin 255,
    IntOp.shli .vector (IntOp.addi (BitVec.ofNat 32 k.val) 1#32) 23#32 = BitVec.ofNat 32 (k.val + 1) <<< 23 := by decide +kernel

private theorem sel_word : ∀ n : Fin 256,
    Scalar.select (IntOp.ori (IntOp.cmpi .eq (BitVec.ofNat 32 n.val) 0#32) (IntOp.cmpi .eq (BitVec.ofNat 32 n.val) 255#32))
      0#32 (IntOp.subi (BitVec.ofNat 32 n.val) 126#32) = BitVec.ofInt 32 (expOf n.val) := by decide +kernel

/-- The kernel's exponent word is the exponent of the count. -/
theorem expKer_eq (v : EReal) (n : ℕ) (h : n ≤ 255) (hn : ∀ k, 1 ≤ k → k ≤ 255 → (P k ≤ v ↔ k ≤ n)) :
    expKer v = BitVec.ofInt 32 (expOf n) := by
  have hs : FloatOps.fptosi (F := Ideal) (φ := .f32) 32 (∑ k : Fin 255,
      if Ideal.ofBits .f32 (IntOp.shli .vector (IntOp.addi (BitVec.ofNat 32 k.val) 1#32) 23#32) ≤ v then (1 : EReal) else 0)
      = BitVec.ofNat 32 n := by
    rw [count_sum n h _ fun k => by
      rw [shift_word, ofBits_f32_field _ (by omega)]; exact hn _ (by omega) (by omega)]
    show Ideal.fptosi 32 ((n : ℝ) : EReal) = _
    rw [Ideal.fptosi, Ideal.toIntClamped_coe, if_pos (by positivity), Int.floor_natCast, min_eq_right (by norm_num; omega),
      max_eq_right (by norm_num)]
    exact BitVec.ofInt_natCast 32 n
  rw [expKer, hs]
  exact sel_word ⟨n, by omega⟩

private theorem thrExp_eq (k : Fin 253) : thrExp k = ((((k.val + 2 : ℕ) : ℤ) - 127 : ℤ) : ℝ) := by
  have h : (BitVec.ofNat 32 k.val).toInt = k.val := by
    rw [BitVec.toInt_ofNat']
    have : k.val < 253 := k.isLt
    simp only [Int.bmod]
    omega
  show ((((BitVec.ofNat 32 k.val).toInt : ℝ) : EReal)) - _ = _
  rw [h, c_125, ← EReal.coe_sub]
  congr 1; push_cast; ring

/-- The reference's exponent is the exponent of the count. -/
theorem expRef_eq (v : EReal) (n : ℕ) (h : n ≤ 255) (hn : ∀ k, 1 ≤ k → k ≤ 255 → (P k ≤ v ↔ k ≤ n)) :
    expRef v = ((expOf n : ℝ) : EReal) := by
  have h1 : Ideal.ofBits .f32 0x00800000#32 = P 1 := ofBits_f32_field 1 (by norm_num)
  have h255 : P 255 = ⊤ := by simp [P]
  rw [expRef, expOf, h1, c_top]
  have hlo : v < P 1 ↔ n = 0 := by rw [← not_le, hn 1 (by norm_num) (by norm_num)]; omega
  have hhi : v = ⊤ ↔ n = 255 := by rw [← top_le_iff, ← h255, hn 255 (by norm_num) (by norm_num)]; omega
  simp only [hlo, hhi]
  by_cases hc : n = 0 ∨ n = 255
  · rw [if_pos hc, if_pos hc]; simp
  rw [if_neg hc, if_neg hc]
  have hterm : ∀ k : Fin 253, (if v < ldexp1 (thrExp k) then thrExp k else Ideal.ofBits .f32 0x43000000#32)
      = if n < k.val + 2 then (((((k.val + 2 : ℕ) : ℤ) - 127 : ℤ) : ℝ) : EReal) else (((128 : ℤ) : ℝ) : EReal) := by
    intro k
    rw [thrExp_eq, ldexp1_field _ (by omega), c_128]
    have : v < P (k.val + 2) ↔ n < k.val + 2 := by rw [← not_le, hn _ (by omega) (by omega)]; omega
    simp only [this]
  simp only [hterm]
  apply le_antisymm
  · rcases Nat.lt_or_ge n 254 with h' | h'
    · refine (Finset.fold_min_le _).2 (.inr ⟨⟨n - 1, by omega⟩, Finset.mem_univ _, ?_⟩)
      rw [if_pos (by show n < n - 1 + 2; omega)]
      rw [EReal.coe_le_coe_iff, Int.cast_le]
      show ((n - 1 + 2 : ℕ) : ℤ) - 127 ≤ _
      omega
    · refine (Finset.fold_min_le _).2 (.inr ⟨0, Finset.mem_univ _, ?_⟩)
      rw [if_neg (by show ¬ n < 0 + 2; omega)]
      rw [EReal.coe_le_coe_iff, Int.cast_le]
      omega
  · refine (Finset.le_fold_min _).2 ⟨le_top, fun k _ => ?_⟩
    split
    · rw [EReal.coe_le_coe_iff, Int.cast_le]; omega
    · rw [EReal.coe_le_coe_iff, Int.cast_le]; omega

/-! ### The scale and its reciprocal -/

/-- The word of the power of two with exponent word `e`: the biased exponent, clipped to the field. -/
def scaleWord (e : BitVec 32) : BitVec 32 :=
  IntOp.shli .vector (IntOp.minsi 255#32 (IntOp.maxsi 0#32 (IntOp.addi e 127#32))) 23#32

/-- The field of an exponent: the biased exponent clipped to 0 … 255. -/
def field (z : ℤ) : ℕ := (min 255 (max 0 (z + 127))).toNat

private theorem scaleWord_pos : ∀ n : Fin 256,
    scaleWord (BitVec.ofInt 32 (expOf n.val)) = BitVec.ofNat 32 (field (expOf n.val)) <<< 23 := by decide +kernel

private theorem scaleWord_neg : ∀ n : Fin 256,
    scaleWord (IntOp.subi 0#32 (BitVec.ofInt 32 (expOf n.val))) = BitVec.ofNat 32 (field (-expOf n.val)) <<< 23 := by decide +kernel

theorem ldexp1_clip (z : ℤ) (h : z ≤ 128) : ldexp1 ((z : ℝ) : EReal) = P (field z) := by
  by_cases h' : z < -127
  · rw [ldexp1_small z (by omega)]; congr 1; unfold field; omega
  · have := ldexp1_field (field z) (by unfold field; omega)
    rw [← this]; congr 2
    congr 1; unfold field; omega

/-- The kernel's scale of a row is the reference's. -/
theorem scale_eq (v : EReal) : Ideal.ofBits .f32 (scaleWord (expKer v)) = ldexp1 (expRef v) := by
  obtain ⟨n, h, hn⟩ := exists_count v
  rw [expKer_eq v n h hn, expRef_eq v n h hn, ldexp1_clip _ (by unfold expOf; split <;> omega),
    scaleWord_pos ⟨n, by omega⟩, ofBits_f32_field _ (by unfold field; omega)]

/-- The kernel's reciprocal scale of a row is the reference's. -/
theorem scale_inv_eq (v : EReal) :
    Ideal.ofBits .f32 (scaleWord (IntOp.subi 0#32 (expKer v))) = ldexp1 (0 - expRef v) := by
  obtain ⟨n, h, hn⟩ := exists_count v
  rw [expKer_eq v n h hn, expRef_eq v n h hn,
    show (0 : EReal) - ((expOf n : ℝ) : EReal) = (((-expOf n : ℤ) : ℝ) : EReal) by
      rw [zero_sub, ← EReal.coe_neg]; push_cast; rfl,
    ldexp1_clip _ (by unfold expOf; split <;> omega),
    scaleWord_neg ⟨n, by omega⟩, ofBits_f32_field _ (by unfold field; omega)]

/-- A number that is zero has the exponent zero. -/
theorem expRef_zero : expRef 0 = 0 := by
  have h : (0 : EReal) < Ideal.ofBits .f32 0x00800000#32 := by
    rw [show Ideal.ofBits .f32 0x00800000#32 = P 1 from ofBits_f32_field 1 (by norm_num), P_of_mid (by norm_num) (by norm_num)]
    exact EReal.coe_pos.2 (by positivity)
  rw [expRef, if_pos (.inl h)]

end Cert.Hand

end
-- ==== Proof.Pieces.lean ====
module

public import proofs.«01_k».proof.Proof.Gen.KernelIdeal.Value
public import Idealize.ShloMosaic.Lib.Pipeline.Value
public import Idealize.ShloMosaic.Lib.Tactic

/-! What one grid step of the kernel leaves in its windows, as functions of the blocks it reads.

The scratch holds the decoded weights. The first step fills it slab by slab: sixteen slabs of 256 byte columns, each
giving 256 weight columns of the lower half (the low fields) and 256 of the upper half (the high fields). The kernel
writes every slab out separately; all of them are one function of the slab's bytes and scales. Every step then writes
the quantised rows, their scales, and eight tiles of the product with the scratch. -/

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- The piece of the scratch with the low fields of byte columns `o` to `o + 255`. -/
def slabLo (x1 : Vec F S2048x4096 .i8) (x2 : Vec F S64x8192 .i8) (o : ℕ) (h : o + 256 ≤ 4096) :
    View.Piece (Elt F) S2048x8192 .bf16 :=
  ⟨Rect.unit (s := S2048x8192) ![0, o] S2048x256.size (fun a => by match a with | 0 => exact Nat.le_refl 2048 | 1 => exact (by omega : o + 256 ≤ 8192)),
    k0_pay5 (View.ld x1 (Rect.unit (s := S2048x4096) ![0, o] S2048x256.size (fun a => by match a with | 0 => exact Nat.le_refl 2048 | 1 => exact h)))
      (View.ld x2 (Rect.unit (s := S64x8192) ![0, o] S64x256.size (fun a => by match a with | 0 => exact Nat.le_refl 64 | 1 => exact (by omega : o + 256 ≤ 8192))))⟩

/-- The piece of the scratch with the high fields of byte columns `o` to `o + 255`. -/
def slabHi (x1 : Vec F S2048x4096 .i8) (x2 : Vec F S64x8192 .i8) (o : ℕ) (h : o + 256 ≤ 4096) :
    View.Piece (Elt F) S2048x8192 .bf16 :=
  ⟨Rect.unit (s := S2048x8192) ![0, 4096 + o] S2048x256.size (fun a => by match a with | 0 => exact Nat.le_refl 2048 | 1 => exact (by omega : 4096 + o + 256 ≤ 8192)),
    k0_pay6 (k0_pay4 (View.ld x1 (Rect.unit (s := S2048x4096) ![0, o] S2048x256.size (fun a => by match a with | 0 => exact Nat.le_refl 2048 | 1 => exact h))))
      (View.ld x2 (Rect.unit (s := S64x8192) ![0, 4096 + o] S64x256.size (fun a => by match a with | 0 => exact Nat.le_refl 64 | 1 => exact (by omega : 4096 + o + 256 ≤ 8192))))⟩

/-- The pieces of the scratch, the last one written first. -/
def slabs (x1 : Vec F S2048x4096 .i8) (x2 : Vec F S64x8192 .i8) : List (View.Piece (Elt F) S2048x8192 .bf16) :=
  [slabHi x1 x2 3840 (by decide), slabLo x1 x2 3840 (by decide),
    slabHi x1 x2 3584 (by decide), slabLo x1 x2 3584 (by decide),
    slabHi x1 x2 3328 (by decide), slabLo x1 x2 3328 (by decide),
    slabHi x1 x2 3072 (by decide), slabLo x1 x2 3072 (by decide),
    slabHi x1 x2 2816 (by decide), slabLo x1 x2 2816 (by decide),
    slabHi x1 x2 2560 (by decide), slabLo x1 x2 2560 (by decide),
    slabHi x1 x2 2304 (by decide), slabLo x1 x2 2304 (by decide),
    slabHi x1 x2 2048 (by decide), slabLo x1 x2 2048 (by decide),
    slabHi x1 x2 1792 (by decide), slabLo x1 x2 1792 (by decide),
    slabHi x1 x2 1536 (by decide), slabLo x1 x2 1536 (by decide),
    slabHi x1 x2 1280 (by decide), slabLo x1 x2 1280 (by decide),
    slabHi x1 x2 1024 (by decide), slabLo x1 x2 1024 (by decide),
    slabHi x1 x2 768 (by decide), slabLo x1 x2 768 (by decide),
    slabHi x1 x2 512 (by decide), slabLo x1 x2 512 (by decide),
    slabHi x1 x2 256 (by decide), slabLo x1 x2 256 (by decide),
    slabHi x1 x2 0 (by decide), slabLo x1 x2 0 (by decide)]

/-- The quantised rows times their scales: the left factor of the product. -/
def xw (x0 : Vec F S256x2048 .bf16) : FVec F S256x2048 .bf16 :=
  k0_pay105 (k0_pay98 x0) (k0_pay99 x0) (k0_pay100 x0) k0_pay101

/-- The tile of the product at columns `o` to `o + 1023`. -/
def yTile (x0 : Vec F S256x2048 .bf16) (W : Vec F S2048x8192 .bf16) (o : ℕ) (h : o + 1024 ≤ 8192) :
    View.Piece (Elt F) S256x8192 .bf16 :=
  ⟨Rect.unit (s := S256x8192) ![0, o] S256x1024.size (fun a => by match a with | 0 => exact Nat.le_refl 256 | 1 => exact h),
    k0_pay2 (xw x0) (View.ld W (Rect.unit (s := S2048x8192) ![0, o] S2048x1024.size (fun a => by match a with | 0 => exact Nat.le_refl 2048 | 1 => exact h)))⟩

/-- The tiles of the product, the last one written first. -/
def yTiles (x0 : Vec F S256x2048 .bf16) (W : Vec F S2048x8192 .bf16) : List (View.Piece (Elt F) S256x8192 .bf16) :=
  [yTile x0 W 7168 (by decide), yTile x0 W 6144 (by decide), yTile x0 W 5120 (by decide), yTile x0 W 4096 (by decide), yTile x0 W 3072 (by decide), yTile x0 W 2048 (by decide), yTile x0 W 1024 (by decide), yTile x0 W 0 (by decide)]

theorem hz2 : (![0, 0] : Fin 2 → Nat) = fun _ => 0 := funext fun a => by fin_cases a <;> rfl
theorem hz3 : (![0, 0, 0] : Fin 3 → Nat) = fun _ => 0 := funext fun a => by fin_cases a <;> rfl

/-- The first step fills the scratch with the slabs. -/
theorem scratch_A (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : cond0_0 i) (x0 : Vec F S256x2048 .bf16) (x1 : Vec F S2048x4096 .i8) (x2 : Vec F S64x8192 .i8) :
    sout0_A_0 c i a1 h1 a2 h2 a3 h3 a4 h4 a5 h5 a6 h6 a7 h7 hc x0 x1 x2 = View.canon (slabs x1 x2) := by
  unfold sout0_A_0
  rw [View.read_writes_eq_canon _ _ _ (scover0_A_0 c i a1 h1 a2 h2 a3 h3 a4 h4 a5 h5 a6 h6 a7 h7 hc x0 x1 x2)]
  unfold kernelRun0_A
  dsimp only
  sl_unfold_words
  simp only [View.readAt_eq_ld, h2.read_unread, h3.read_unread]
  unfold slabs
  rfl

/-- The first step's product block, over the scratch it has just filled. -/
theorem y_A (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : cond0_0 i) (x0 : Vec F S256x2048 .bf16) (x1 : Vec F S2048x4096 .i8) (x2 : Vec F S64x8192 .i8) :
    out0_A_3 c i a1 h1 a2 h2 a3 h3 a4 h4 a5 h5 a6 h6 a7 h7 hc x0 x1 x2 = View.canon (yTiles x0 (View.canon (slabs x1 x2))) := by
  unfold out0_A_3
  rw [View.read_writes_eq_canon _ _ _ (cover0_A_3 c i a1 h1 a2 h2 a3 h3 a4 h4 a5 h5 a6 h6 a7 h7 hc x0 x1 x2)]
  unfold kernelRun0_A
  dsimp only
  sl_unfold_words
  simp only [View.readAt_eq_ld, h1.read_unread, h2.read_unread, h3.read_unread, View.readCov_eq_canon', View.ld_unit_zero (S := S256x2048) hz2]
  unfold yTiles slabs
  rfl

/-- A later step's product block, over the scratch it finds. -/
theorem y_B (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : ¬cond0_0 i) (x0 : Vec F S256x2048 .bf16) (x1 : Vec F S2048x4096 .i8) (x2 : Vec F S64x8192 .i8) (xs0 : Vec F S2048x8192 .bf16) :
    out0_B_3 c i a1 h1 a2 h2 a3 h3 a4 h4 a5 h5 a6 h6 a7 h7 hc x0 x1 x2 xs0 = View.canon (yTiles x0 xs0) := by
  unfold out0_B_3
  rw [View.read_writes_eq_canon _ _ _ (cover0_B_3 c i a1 h1 a2 h2 a3 h3 a4 h4 a5 h5 a6 h6 a7 h7 hc x0 x1 x2 xs0)]
  unfold kernelRun0_B
  dsimp only
  sl_unfold_words
  simp only [View.readAt_eq_ld, h1.read_unread, h7.read_unread, View.ld_unit_zero (S := S256x2048) hz2]
  unfold yTiles
  rfl

/-- The quantised rows of a step (the first). -/
theorem codes_A (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : cond0_0 i) (x0 : Vec F S256x2048 .bf16) (x1 : Vec F S2048x4096 .i8) (x2 : Vec F S64x8192 .i8) :
    out0_A_4 c i a1 h1 a2 h2 a3 h3 a4 h4 a5 h5 a6 h6 a7 h7 hc x0 x1 x2 = k0_pay103 (k0_pay98 x0) (k0_pay99 x0) := by
  unfold out0_A_4
  rw [View.read_writes_eq_canon _ _ _ (cover0_A_4 c i a1 h1 a2 h2 a3 h3 a4 h4 a5 h5 a6 h6 a7 h7 hc x0 x1 x2)]
  unfold kernelRun0_A
  dsimp only
  sl_unfold_words
  rw [View.canon_unit_zero hz2]
  simp only [View.readAt_eq_ld, h1.read_unread, View.ld_unit_zero (S := S256x2048) hz2]

/-- The scales of a step (the first). -/
theorem scales_A (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : cond0_0 i) (x0 : Vec F S256x2048 .bf16) (x1 : Vec F S2048x4096 .i8) (x2 : Vec F S64x8192 .i8) :
    out0_A_5 c i a1 h1 a2 h2 a3 h3 a4 h4 a5 h5 a6 h6 a7 h7 hc x0 x1 x2 = k0_pay104 (F := F) (k0_pay100 x0) k0_pay101 := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  rw [View.canon_unit_zero hz3]
  simp only [View.readAt_eq_ld, h1.read_unread, View.ld_unit_zero (S := S256x2048) hz2]

/-- The quantised rows of a step (a later one). -/
theorem codes_B (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : ¬cond0_0 i) (x0 : Vec F S256x2048 .bf16) (x1 : Vec F S2048x4096 .i8) (x2 : Vec F S64x8192 .i8) (xs0 : Vec F S2048x8192 .bf16) :
    out0_B_4 c i a1 h1 a2 h2 a3 h3 a4 h4 a5 h5 a6 h6 a7 h7 hc x0 x1 x2 xs0 = k0_pay103 (k0_pay98 x0) (k0_pay99 x0) := by
  unfold out0_B_4
  rw [View.read_writes_eq_canon _ _ _ (cover0_B_4 c i a1 h1 a2 h2 a3 h3 a4 h4 a5 h5 a6 h6 a7 h7 hc x0 x1 x2 xs0)]
  unfold kernelRun0_B
  dsimp only
  sl_unfold_words
  rw [View.canon_unit_zero hz2]
  simp only [View.readAt_eq_ld, h1.read_unread, View.ld_unit_zero (S := S256x2048) hz2]

/-- The scales of a step (a later one). -/
theorem scales_B (c : Dev nD) (i : grid0.Coords) (a1 : Memref sig .tc .vmem S256x2048 .bf16) (h1 : a1.IsWhole) (a2 : Memref sig .tc .vmem S2048x4096 .i8) (h2 : a2.IsWhole) (a3 : Memref sig .tc .vmem S64x8192 .i8) (h3 : a3.IsWhole) (a4 : Memref sig .tc .vmem S256x8192 .bf16) (h4 : a4.IsWhole) (a5 : Memref sig .tc .vmem S256x2048 .fp8e4m3) (h5 : a5.IsWhole) (a6 : Memref sig .tc .vmem S1x2x128 .f32) (h6 : a6.IsWhole) (a7 : Memref sig .tc .vmem S2048x8192 .bf16) (h7 : a7.IsWhole)
    (hc : ¬cond0_0 i) (x0 : Vec F S256x2048 .bf16) (x1 : Vec F S2048x4096 .i8) (x2 : Vec F S64x8192 .i8) (xs0 : Vec F S2048x8192 .bf16) :
    out0_B_5 c i a1 h1 a2 h2 a3 h3 a4 h4 a5 h5 a6 h6 a7 h7 hc x0 x1 x2 xs0 = k0_pay104 (F := F) (k0_pay100 x0) k0_pay101 := by
  unfold out0_B_5
  rw [View.read_writes_eq_canon _ _ _ (cover0_B_5 c i a1 h1 a2 h2 a3 h3 a4 h4 a5 h5 a6 h6 a7 h7 hc x0 x1 x2 xs0)]
  unfold kernelRun0_B
  dsimp only
  sl_unfold_words
  rw [View.canon_unit_zero hz3]
  simp only [View.readAt_eq_ld, h1.read_unread, View.ld_unit_zero (S := S256x2048) hz2]

end Cert.KernelIdeal.Hand

end
-- ==== Proof.Decode.lean ====
module

public import proofs.«01_k».proof.Proof.Numbers
public import proofs.«01_k».proof.Proof.Pieces
public import Idealize.ShloMosaic.Lib.BitcastFour
public import Idealize.ShloMosaic.Lib.BitcastPair

/-! The decoded weights: a four-bit field times a power-of-two scale.

A field has a sign bit, two exponent bits and one fraction bit. The kernel moves four fields at a time, in a
thirty-two-bit word, to where an eight-bit float has these bits, and multiplies by 64 for the difference of the
exponent biases. -/

@[expose] public section

set_option maxRecDepth 16384

noncomputable section

open Idealize.ShloMosaic

namespace Cert.Hand

/-! ### The values of the sixteen fields -/

/-- The magnitude of a field from its three low bits. -/
def mag (b0 b1 b2 : Bool) : ℝ :=
  if b2 then (if b1 then (if b0 then 6 else 4) else (if b0 then 3 else 2))
  else (if b1 then (if b0 then 3 / 2 else 1) else (if b0 then 1 / 2 else 0))

/-- The value of a field from its four bits. -/
def nib (b0 b1 b2 b3 : Bool) : EReal := ((if b3 then -mag b0 b1 b2 else mag b0 b1 b2 : ℝ) : EReal)

/-- The eight-bit float with the bits of a field. -/
def enc (b0 b1 b2 b3 : Bool) : BitVec 8 :=
  BitVec.ofNat 8 (4 * b0.toNat + 8 * b1.toNat + 16 * b2.toNat + 128 * b3.toNat)

private theorem e4_val (b : BitVec 8) (s : Bool) (ex fr : ℕ) (h1 : (b.extractLsb' 7 1 == 1#1) = s)
    (h2 : (b.extractLsb' 3 4).toNat = ex) (h3 : (b.extractLsb' 0 3).toNat = fr) (h4 : ex < 15) :
    Ideal.e4m3fn b = (((if s then -1 else 1) * (if ex = 0 then fr * (2 : ℝ) ^ (-9 : ℤ)
      else (8 + fr : ℕ) * (2 : ℝ) ^ ((ex : ℤ) - 10)) : ℝ) : EReal) := by
  unfold Ideal.e4m3fn
  simp only [h1, h2, h3]
  rw [if_neg (by omega)]
  by_cases h : ex = 0
  · rw [if_pos h, if_pos h, ← mul_assoc]
  · rw [if_neg h, if_neg h, ← mul_assoc]

private theorem c_64 : Ideal.ofBits .bf16 0x4280#16 = ((64 : ℝ) : EReal) := by
  show Ideal.ieee 8 7 (0x4280#16) = _
  refine (ieee_normal 7 (0x4280#16) false 133 0 (by decide) (by decide) (by decide) (by decide) (by decide)).trans ?_
  norm_num [zpow_neg]

/-- The eight-bit float times 64 is the field's value. -/
theorem enc_val (b0 b1 b2 b3 : Bool) :
    Ideal.ofBits .fp8e4m3 (enc b0 b1 b2 b3) * Ideal.ofBits .bf16 0x4280#16 = nib b0 b1 b2 b3 := by
  rw [c_64]
  show Ideal.e4m3fn _ * _ = _
  rw [e4_val (enc b0 b1 b2 b3) b3 (b1.toNat + 2 * b2.toNat) (4 * b0.toNat) (by revert b0 b1 b2 b3; decide)
    (by revert b0 b1 b2 b3; decide) (by revert b0 b1 b2 b3; decide) (by revert b1 b2; decide), ← EReal.coe_mul, nib]
  congr 1
  cases b0 <;> cases b1 <;> cases b2 <;> cases b3 <;> norm_num [mag, zpow_neg]

/-! ### Words as rows of bytes -/

theorem bitcast_32_8_ix2 {R r n : ℕ} (x : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : a.val = p.val / 4) :
    (bitcast ⟨2, ![R, n]⟩ 8 x h (ValueIdx.ix2 p l)).getLsbD q = (x (ValueIdx.ix2 a l)).getLsbD (8 * (p.val % 4) + q) := by
  rw [bitcast_getLsbD x h _ q hq (by decide)]
  have hrow : Shape.row (⟨2, ![R, n]⟩ : Shape) (ValueIdx.ix2 p l) = p.val := rfl
  have e2 : (p.val * 8 + q) % 32 = 8 * (p.val % 4) + q := by omega
  have hi : ∀ k hk, k = p.val / 4 → h.srcIdx (ValueIdx.ix2 p l) k hk = ValueIdx.ix2 a l := fun k hk e => by
    funext c
    match c with
    | ⟨0, _⟩ => exact Fin.ext ((h.srcIdx_row _ _ _ ⟨0, Nat.zero_lt_two⟩ rfl).trans (e.trans ha.symm))
    | ⟨1, _⟩ => exact Fin.ext (h.srcIdx_other _ _ _ ⟨1, Nat.one_lt_two⟩ (by simp))
  rw [hi _ _ (by rw [hrow]; omega), hrow, e2]

theorem bitcast_32_16_ix2 {R r n : ℕ} (x : (⟨2, ![r, n]⟩ : Shape).Idx → BitVec 32)
    (h : (⟨2, ![r, n]⟩ : Shape).Bitcasts 32 ⟨2, ![R, n]⟩ 16) (p : Fin R) (l : Fin n) (a : Fin r)
    (ha : a.val = p.val / 2) :
    bitcast ⟨2, ![R, n]⟩ 16 x h (ValueIdx.ix2 p l) = (x (ValueIdx.ix2 a l)).extractLsb' (16 * (p.val % 2)) 16 := by
  rw [bitcast_32_16 x h]
  have hrow : Shape.row (⟨2, ![R, n]⟩ : Shape) (ValueIdx.ix2 p l) = p.val := rfl
  have hi : ∀ k hk, k = p.val / 2 → h.srcIdx (ValueIdx.ix2 p l) k hk = ValueIdx.ix2 a l := fun k hk e => by
    funext c
    match c with
    | ⟨0, _⟩ => exact Fin.ext ((h.srcIdx_row _ _ _ ⟨0, Nat.zero_lt_two⟩ rfl).trans (e.trans ha.symm))
    | ⟨1, _⟩ => exact Fin.ext (h.srcIdx_other _ _ _ ⟨1, Nat.one_lt_two⟩ (by simp))
  rw [hi _ _ (by rw [hrow]), hrow]

/-- The word of four low fields moved into place. -/
def loWord (w : BitVec 32) : BitVec 32 :=
  IntOp.ori (IntOp.shli .vector (IntOp.andi w 117901063#32) 2#32) (IntOp.shli .vector (IntOp.andi w 134744072#32) 4#32)

/-- The word of four high fields moved into place. -/
def hiWord (w : BitVec 32) : BitVec 32 :=
  IntOp.ori (IntOp.shrui .vector (IntOp.andi w 1886417008#32) 2#32) (IntOp.andi w 2155905152#32)

private theorem loWord_bits (w : BitVec 32) : loWord w = ((w &&& 117901063#32) <<< 2) ||| ((w &&& 134744072#32) <<< 4) := rfl
private theorem hiWord_bits (w : BitVec 32) : hiWord w = ((w &&& 1886417008#32) >>> 2) ||| (w &&& 2155905152#32) := rfl

private theorem enc_bits (b0 b1 b2 b3 : Bool) (i : ℕ) (hi : i < 8) :
    (enc b0 b1 b2 b3).getLsbD i = if i = 2 then b0 else if i = 3 then b1 else if i = 4 then b2 else if i = 7 then b3 else false := by
  interval_cases i <;> revert b0 b1 b2 b3 <;> decide

theorem lo_byte (w : BitVec 32) (b r : BitVec 8) (p : ℕ) (hp : p < 4) (hb : ∀ q < 8, w.getLsbD (8 * p + q) = b.getLsbD q)
    (hr : ∀ q < 8, r.getLsbD q = (loWord w).getLsbD (8 * p + q)) :
    r = enc (b.getLsbD 0) (b.getLsbD 1) (b.getLsbD 2) (b.getLsbD 3) := by
  apply BitVec.eq_of_getLsbD_eq
  intro i hi
  rw [hr i hi, loWord_bits, enc_bits _ _ _ _ i hi, ← hb 0 (by decide), ← hb 1 (by decide), ← hb 2 (by decide), ← hb 3 (by decide)]
  simp only [BitVec.getLsbD_or, BitVec.getLsbD_shiftLeft, BitVec.getLsbD_and]
  interval_cases p <;> interval_cases i <;> simp

theorem hi_byte (w : BitVec 32) (b r : BitVec 8) (p : ℕ) (hp : p < 4) (hb : ∀ q < 8, w.getLsbD (8 * p + q) = b.getLsbD q)
    (hr : ∀ q < 8, r.getLsbD q = (hiWord w).getLsbD (8 * p + q)) :
    r = enc (b.getLsbD 4) (b.getLsbD 5) (b.getLsbD 6) (b.getLsbD 7) := by
  apply BitVec.eq_of_getLsbD_eq
  intro i hi
  rw [hr i hi, hiWord_bits, enc_bits _ _ _ _ i hi, ← hb 4 (by decide), ← hb 5 (by decide), ← hb 6 (by decide), ← hb 7 (by decide)]
  simp only [BitVec.getLsbD_or, BitVec.getLsbD_ushiftRight, BitVec.getLsbD_and]
  interval_cases p <;> interval_cases i <;> simp

/-! ### The scale -/

/-- A scale byte as two bfloat16 exponent fields in one word. -/
def scaleWords (e : BitVec 8) : BitVec 32 :=
  IntOp.ori (IntOp.shli .vector (e.setWidth 32) 7#32) (IntOp.shli .vector (IntOp.shli .vector (e.setWidth 32) 7#32) 16#32)

private theorem scaleWords_half : ∀ e : Fin 256, ∀ k : Fin 2,
    (scaleWords (BitVec.ofFin e)).extractLsb' (16 * k.val) 16 = BitVec.ofNat 16 e.val <<< 7 := by decide +kernel

theorem scaleWords_val (e : BitVec 8) (k : ℕ) (hk : k < 2) :
    Ideal.ofBits .bf16 ((scaleWords e).extractLsb' (16 * k) 16) = P e.toNat := by
  have h := scaleWords_half e.toFin ⟨k, hk⟩
  rw [show BitVec.ofFin e.toFin = e from rfl] at h
  exact (congrArg (Ideal.ofBits .bf16) h).trans (ofBits_bf16_field _ e.isLt)

/-- A weight: a low field and a scale byte. -/
def wLo (b e : BitVec 8) : EReal := nib (b.getLsbD 0) (b.getLsbD 1) (b.getLsbD 2) (b.getLsbD 3) * P e.toNat
/-- A weight: a high field and a scale byte. -/
def wHi (b e : BitVec 8) : EReal := nib (b.getLsbD 4) (b.getLsbD 5) (b.getLsbD 6) (b.getLsbD 7) * P e.toNat

end Cert.Hand

namespace Cert.KernelIdeal.Hand

open Cert.KernelIdeal Cert.KernelIdeal.Gen Cert.Hand

/-- The low fields' bytes of a slab. -/
theorem lo_bytes (b : IVec S2048x256 8) (X : IVec S512x256 32) (hX : ∀ i, X i = loWord (bitcast S512x256 32 b bitcasts_S2048x256_w8_S512x256_w32 i))
    (r : Fin 2048) (u : Fin 256) :
    bitcast S2048x256 8 X bitcasts_S512x256_w32_S2048x256_w8 (ix2 r u)
      = enc ((b (ix2 r u)).getLsbD 0) ((b (ix2 r u)).getLsbD 1) ((b (ix2 r u)).getLsbD 2) ((b (ix2 r u)).getLsbD 3) := by
  rw [ix2_eq_valueIdx]
  refine lo_byte (bitcast S512x256 32 b bitcasts_S2048x256_w8_S512x256_w32 (ValueIdx.ix2 ⟨r.val / 4, by omega⟩ u)) _ _
    (r.val % 4) (by omega) (fun q hq => ?_) fun q hq => ?_
  · rw [bitcast_8_32_getLsbD_ix2 b _ _ _ _ (by omega) r (by show r.val = 4 * (r.val / 4) + _; omega),
      show (8 * (r.val % 4) + q) % 8 = q by omega]
  · rw [← hX]
    exact bitcast_32_8_ix2 X _ r u q hq ⟨r.val / 4, by omega⟩ rfl

/-- The high fields' bytes of a slab. -/
theorem hi_bytes (b : IVec S2048x256 8) (X : IVec S512x256 32) (hX : ∀ i, X i = hiWord (bitcast S512x256 32 b bitcasts_S2048x256_w8_S512x256_w32 i))
    (r : Fin 2048) (u : Fin 256) :
    bitcast S2048x256 8 X bitcasts_S512x256_w32_S2048x256_w8 (ix2 r u)
      = enc ((b (ix2 r u)).getLsbD 4) ((b (ix2 r u)).getLsbD 5) ((b (ix2 r u)).getLsbD 6) ((b (ix2 r u)).getLsbD 7) := by
  rw [ix2_eq_valueIdx]
  refine hi_byte (bitcast S512x256 32 b bitcasts_S2048x256_w8_S512x256_w32 (ValueIdx.ix2 ⟨r.val / 4, by omega⟩ u)) _ _
    (r.val % 4) (by omega) (fun q hq => ?_) fun q hq => ?_
  · rw [bitcast_8_32_getLsbD_ix2 b _ _ _ _ (by omega) r (by show r.val = 4 * (r.val / 4) + _; omega),
      show (8 * (r.val % 4) + q) % 8 = q by omega]
  · rw [← hX]
    exact bitcast_32_8_ix2 X _ r u q hq ⟨r.val / 4, by omega⟩ rfl

/-- The scales of a slab, two bfloat16 rows from each word row and eight word rows from each scale row. -/
theorem slab_scale (w : IVec S64x256 8) (p : Fin 1024) (u : Fin 256) :
    Ideal.ofBits .bf16 (bitcast S1024x256 16
      (shapeCast S512x256
        (broadcastTo S64x8x256
          (shapeCast S64x1x256
            (ori (shli (extui 32 w natLt_8_32) (broadcast S64x256 7#32))
              (shli (shli (extui 32 w natLt_8_32) (broadcast S64x256 7#32)) (broadcast S64x256 16#32)))
            shapeCasts_S64x256_S64x1x256)
          broadcasts_S64x1x256_S64x8x256)
        shapeCasts_S64x8x256_S512x256)
      bitcasts_S512x256_w32_S1024x256_w16 (ix2 p u)) = P (w (ix2 ⟨p.val / 16, by omega⟩ u)).toNat := by
  rw [ix2_eq_valueIdx p u, bitcast_32_16_ix2 _ _ p u ⟨p.val / 2, by omega⟩ rfl, ← ix2_eq_valueIdx]
  have h : ∀ (a : Fin 512), shapeCast S512x256
        (broadcastTo S64x8x256
          (shapeCast S64x1x256
            (ori (shli (extui 32 w natLt_8_32) (broadcast S64x256 7#32))
              (shli (shli (extui 32 w natLt_8_32) (broadcast S64x256 7#32)) (broadcast S64x256 16#32)))
            shapeCasts_S64x256_S64x1x256)
          broadcasts_S64x1x256_S64x8x256)
        shapeCasts_S64x8x256_S512x256 (ix2 a u) = scaleWords (w (ix2 ⟨a.val / 8, by omega⟩ u)) := by
    intro a
    pointwise [scaleWords]
  rw [h]
  refine (scaleWords_val _ _ (Nat.mod_lt _ (by decide))).trans ?_
  congr 4
  ext
  show p.val / 2 / 8 = p.val / 16
  omega

theorem dec_lo (b : IVec S2048x256 8) (w : IVec S64x256 8) (r : Fin 2048) (u : Fin 256) :
    k0_pay5 (F := Ideal) b w (ix2 r u) = wLo (b (ix2 r u)) (w (ix2 ⟨r.val / 32, by omega⟩ u)) := by
  pointwise [k0_pay5, k0_pay3]
  refine congrArg₂ (· * ·) ((congrArg (fun z => Ideal.ofBits .fp8e4m3 z * Ideal.ofBits .bf16 0x4280#16)
    (lo_bytes b _ (fun _ => by rfl) r u)).trans (enc_val _ _ _ _)) ((slab_scale w _ u).trans ?_)
  congr 4
  ext
  show (r.val / 32 * 16 + r.val % 16) / 16 = r.val / 32
  omega

theorem dec_hi (b : IVec S2048x256 8) (w : IVec S64x256 8) (r : Fin 2048) (u : Fin 256) :
    k0_pay6 (F := Ideal) (k0_pay4 (F := Ideal) b) w (ix2 r u) = wHi (b (ix2 r u)) (w (ix2 ⟨r.val / 32, by omega⟩ u)) := by
  pointwise [k0_pay6, k0_pay4, k0_pay3]
  refine congrArg₂ (· * ·) ((congrArg (fun z => Ideal.ofBits .fp8e4m3 z * Ideal.ofBits .bf16 0x4280#16)
    (hi_bytes b _ (fun _ => by rfl) r u)).trans (enc_val _ _ _ _)) ((slab_scale w _ u).trans ?_)
  congr 4
  ext
  show (r.val / 32 * 16 + r.val % 16) / 16 = r.val / 32
  omega

end Cert.KernelIdeal.Hand

end
-- ==== Proof.Quantize.lean ====
module

public import proofs.«01_k».proof.Proof.Numbers
public import proofs.«01_k».proof.Proof.Decode
public import proofs.«01_k».proof.Proof.Pieces

/-! The quantised rows: what the kernel's payloads hold at an index, in terms of the row of the activations. -/

@[expose] public section

set_option maxRecDepth 16384

noncomputable section

open Idealize.ShloMosaic

namespace Cert.Hand

/-- The largest magnitude of a row. -/
def amax (f : Fin 2048 → EReal) : EReal :=
  Finset.univ.fold max (Ideal.ofBits .f32 0xFF800000#32) fun k => FloatOps.absf (F := Ideal) (φ := .f32) (f k)

/-- The number a row's exponent is chosen from: the largest magnitude over the largest code. -/
def rowV (f : Fin 2048 → EReal) : EReal := amax f * Ideal.ofBits .f32 0x3B124925#32

/-- The scale of a row. -/
def scl (f : Fin 2048 → EReal) : EReal := ldexp1 (expRef (rowV f))

/-- The code of entry `k` of a row. -/
def cod (f : Fin 2048 → EReal) (k : Fin 2048) : EReal :=
  min (Ideal.ofBits .f32 0x43E00000#32) (max (Ideal.ofBits .f32 0xC3E00000#32) (f k * ldexp1 (0 - expRef (rowV f))))

end Cert.Hand

namespace Cert.KernelIdeal.Hand

open Cert.KernelIdeal Cert.KernelIdeal.Gen Cert.Hand

/-- The row of a block of activations. -/
abbrev row (x : Vec Ideal S256x2048 .bf16) (r : Fin 256) : Fin 2048 → EReal := fun k => x (ix2 r k)

theorem pay99_at (x : Vec Ideal S256x2048 .bf16) (r : Fin 256) (u : Fin 1) :
    k0_pay99 (F := Ideal) x (ix2 r u) = expKer (rowV (row x r)) := by
  pointwise [k0_pay99, k0_pay98]
  rfl

theorem codes_at (x : Vec Ideal S256x2048 .bf16) (r : Fin 256) (u : Fin 2048) :
    k0_pay103 (F := Ideal) (k0_pay98 x) (k0_pay99 x) (ix2 r u) = cod (row x r) u := by
  have h : k0_pay103 (F := Ideal) (k0_pay98 x) (k0_pay99 x) (ix2 r u)
      = min (Ideal.ofBits .f32 0x43E00000#32) (max (Ideal.ofBits .f32 0xC3E00000#32)
        (x (ix2 r u) * Ideal.ofBits .f32 (scaleWord (IntOp.subi 0#32 (k0_pay99 (F := Ideal) x (ix2 r 0)))))) := by
    pointwise [k0_pay103, k0_pay98]
    rfl
  rw [h, pay99_at, scale_inv_eq]
  rfl

/-- The scale of a row as the kernel forms it. -/
theorem sword_at (x : Vec Ideal S256x2048 .bf16) (r : Fin 256) :
    Ideal.ofBits .f32 (IntOp.shli .vector (IntOp.minsi (k0_pay101 (ix2 r 0)) (k0_pay100 (F := Ideal) x (ix2 r 0))) 23#32)
      = scl (row x r) := by
  have h : IntOp.shli .vector (IntOp.minsi (k0_pay101 (ix2 r 0)) (k0_pay100 (F := Ideal) x (ix2 r 0))) 23#32
      = scaleWord (k0_pay99 (F := Ideal) x (ix2 r 0)) := by
    pointwise [k0_pay101, k0_pay100]
    rfl
  rw [h, pay99_at, scale_eq]
  rfl

theorem xw_at (x : Vec Ideal S256x2048 .bf16) (r : Fin 256) (u : Fin 2048) :
    xw (F := Ideal) x (ix2 r u) = cod (row x r) u * scl (row x r) := by
  have h : xw (F := Ideal) x (ix2 r u) = k0_pay103 (F := Ideal) (k0_pay98 x) (k0_pay99 x) (ix2 r u)
      * Ideal.ofBits .f32 (IntOp.shli .vector (IntOp.minsi (k0_pay101 (ix2 r 0)) (k0_pay100 (F := Ideal) x (ix2 r 0))) 23#32) := by
    pointwise [xw, k0_pay105]
    rfl
  rw [h, codes_at, sword_at]

theorem scales_at (x : Vec Ideal S256x2048 .bf16) (t : Fin 1) (r : Fin 2) (u : Fin 128) :
    k0_pay104 (F := Ideal) (k0_pay100 (F := Ideal) x) k0_pay101 (ix3 t r u)
      = scl (row x ⟨r.val * 128 + u.val, by omega⟩) := by
  have h : k0_pay104 (F := Ideal) (k0_pay100 (F := Ideal) x) k0_pay101 (ix3 t r u)
      = ∑ l : Fin 128, Scalar.select (IntOp.cmpi .eq (BitVec.ofNat 32 l.val) (BitVec.ofNat 32 u.val))
          (Ideal.ofBits .f32 (IntOp.shli .vector (IntOp.minsi (k0_pay101 (ix2 ⟨r.val * 128 + l.val, by omega⟩ 0))
            (k0_pay100 (F := Ideal) x (ix2 ⟨r.val * 128 + l.val, by omega⟩ 0))) 23#32)) 0 := by
    pointwise [k0_pay104]
    rfl
  rw [h]
  simp only [sword_at]
  rw [Finset.sum_eq_single u]
  · simp [Scalar.select, IntOp.cmpi]
  · intro l _ hl
    have : ¬ (BitVec.ofNat 32 l.val = BitVec.ofNat 32 u.val) := by
      intro h
      have := congrArg BitVec.toNat h
      simp only [BitVec.toNat_ofNat] at this
      exact hl (Fin.ext (by omega))
    have hb : (BitVec.ofNat 32 l.val == BitVec.ofNat 32 u.val) = false := beq_eq_false_iff_ne.mpr this
    simp [Scalar.select, IntOp.cmpi, hb]
  · simp

end Cert.KernelIdeal.Hand

end
-- ==== Proof.Result.lean ====
module

public import proofs.«01_k».proof.Proof.Quantize

/-! The three results as functions of the activations, the packed weights and their scales. -/

@[expose] public section

noncomputable section

open Idealize.ShloMosaic

namespace Cert.Hand

/-- The decoded weight at row `k` and column `j`: the low field of the byte in the left half, the high field in the right. -/
def wAt (b : Fin 2048 → Fin 4096 → BitVec 8) (s : Fin 64 → Fin 8192 → BitVec 8) (k : Fin 2048) (j : Fin 8192) : EReal :=
  if h : j.val < 4096 then wLo (b k ⟨j.val, h⟩) (s ⟨k.val / 32, by omega⟩ j)
  else wHi (b k ⟨j.val - 4096, by omega⟩) (s ⟨k.val / 32, by omega⟩ j)

theorem wAt_lo (b : Fin 2048 → Fin 4096 → BitVec 8) (s : Fin 64 → Fin 8192 → BitVec 8) (k : Fin 2048) (j : ℕ) (h : j < 4096) :
    wAt b s k ⟨j, by omega⟩ = wLo (b k ⟨j, h⟩) (s ⟨k.val / 32, by omega⟩ ⟨j, by omega⟩) := dif_pos h

theorem wAt_hi (b : Fin 2048 → Fin 4096 → BitVec 8) (s : Fin 64 → Fin 8192 → BitVec 8) (k : Fin 2048) (j : ℕ) (h : j < 4096) :
    wAt b s k ⟨4096 + j, by omega⟩ = wHi (b k ⟨j, h⟩) (s ⟨k.val / 32, by omega⟩ ⟨4096 + j, by omega⟩) := by
  have e : (⟨4096 + j - 4096, by omega⟩ : Fin 4096) = ⟨j, h⟩ := Fin.ext (by show 4096 + j - 4096 = j; omega)
  unfold wAt
  rw [dif_neg (by show ¬ 4096 + j < 4096; omega), e]

/-- One entry of the product: the row's codes times its scale, against a column of decoded weights. -/
def yAt (f : Fin 2048 → EReal) (w : Fin 2048 → EReal) : EReal := ∑ k, cod f k * scl f * w k

end Cert.Hand

end
-- ==== Proof.Blocks.lean ====
module

public import proofs.«01_k».proof.Proof.Result

/-! What one grid step of the kernel leaves in its windows, index by index. -/

@[expose] public section

set_option maxRecDepth 16384

noncomputable section

open Idealize.ShloMosaic

namespace Cert.KernelIdeal.Hand

open Cert.KernelIdeal Cert.KernelIdeal.Gen Cert.Hand

/-! ### Reading a column range of a buffer -/

theorem ld_bytes (x1 : Vec Ideal S2048x4096 .i8) (o : ℕ) (h : o + 256 ≤ 4096) (hr) (r : Fin 2048) (u : Fin 256) :
    View.ld x1 (Rect.unit (s := S2048x4096) ![0, o] S2048x256.size hr) (ix2 r u) = x1 (ix2 r ⟨o + u.val, by omega⟩) := by
  show x1 _ = x1 _
  congr 1
  funext a
  apply Fin.ext
  match a with
  | ⟨0, _⟩ => show 0 + 1 * r.val = r.val; omega
  | ⟨1, _⟩ => show o + 1 * u.val = o + u.val; omega

theorem ld_scales (x2 : Vec Ideal S64x8192 .i8) (o : ℕ) (h : o + 256 ≤ 8192) (hr) (r : Fin 64) (u : Fin 256) :
    View.ld x2 (Rect.unit (s := S64x8192) ![0, o] S64x256.size hr) (ix2 r u) = x2 (ix2 r ⟨o + u.val, by omega⟩) := by
  show x2 _ = x2 _
  congr 1
  funext a
  apply Fin.ext
  match a with
  | ⟨0, _⟩ => show 0 + 1 * r.val = r.val; omega
  | ⟨1, _⟩ => show o + 1 * u.val = o + u.val; omega

theorem ld_weights (W : Vec Ideal S2048x8192 .bf16) (o : ℕ) (h : o + 1024 ≤ 8192) (hr) (r : Fin 2048) (u : Fin 1024) :
    View.ld W (Rect.unit (s := S2048x8192) ![0, o] S2048x1024.size hr) (ix2 r u) = W (ix2 r ⟨o + u.val, by omega⟩) := by
  show W _ = W _
  congr 1
  funext a
  apply Fin.ext
  match a with
  | ⟨0, _⟩ => show 0 + 1 * r.val = r.val; omega
  | ⟨1, _⟩ => show o + 1 * u.val = o + u.val; omega

/-! ### The scratch: the decoded weights -/

/-- The decoded weights as a buffer. -/
def wBuf (x1 : Vec Ideal S2048x4096 .i8) (x2 : Vec Ideal S64x8192 .i8) : Vec Ideal S2048x8192 .bf16 := fun y =>
  wAt (fun k u => x1 (ix2 k u)) (fun k u => x2 (ix2 k u)) (y 0) (y 1)

theorem slabLo_at (x1 : Vec Ideal S2048x4096 .i8) (x2 : Vec Ideal S64x8192 .i8) (o : ℕ) (h : o + 256 ≤ 4096) (r : Fin 2048) (u : Fin 256) :
    (slabLo (F := Ideal) x1 x2 o h).2 (ix2 r u) = wBuf x1 x2 (ix2 r ⟨o + u.val, by omega⟩) := by
  have e : (slabLo (F := Ideal) x1 x2 o h).2 (ix2 r u) = wLo _ _ := dec_lo _ _ r u
  rw [e, ld_bytes _ _ h, ld_scales _ _ (by omega)]
  exact (wAt_lo (fun k u => x1 (ix2 k u)) (fun k u => x2 (ix2 k u)) r (o + u.val) (by omega)).symm

theorem slabHi_at (x1 : Vec Ideal S2048x4096 .i8) (x2 : Vec Ideal S64x8192 .i8) (o : ℕ) (h : o + 256 ≤ 4096) (r : Fin 2048) (u : Fin 256) :
    (slabHi (F := Ideal) x1 x2 o h).2 (ix2 r u) = wBuf x1 x2 (ix2 r ⟨4096 + o + u.val, by omega⟩) := by
  have e : (slabHi (F := Ideal) x1 x2 o h).2 (ix2 r u) = wHi _ _ := dec_hi _ _ r u
  rw [e, ld_bytes _ _ h, ld_scales _ _ (by omega)]
  have e : (⟨4096 + o + u.val, by omega⟩ : Fin 8192) = ⟨4096 + (o + u.val), by omega⟩ := Fin.ext (Nat.add_assoc _ _ _)
  rw [e]
  exact (wAt_hi (fun k u => x1 (ix2 k u)) (fun k u => x2 (ix2 k u)) r (o + u.val) (by omega)).symm

theorem slabLo_piece (x1 : Vec Ideal S2048x4096 .i8) (x2 : Vec Ideal S64x8192 .i8) (o : ℕ) (h : o + 256 ≤ 4096)
    (x : (slabLo (F := Ideal) x1 x2 o h).1.shape.Idx) :
    (slabLo (F := Ideal) x1 x2 o h).2 x = wBuf x1 x2 ((slabLo (F := Ideal) x1 x2 o h).1.emb x) := by
  have hx : x = (ix2 (n0 := 2048) (n1 := 256) (x 0) (x 1)) := funext fun a => match a with | ⟨0, _⟩ => rfl | ⟨1, _⟩ => rfl
  have he : (slabLo (F := Ideal) x1 x2 o h).1.emb x = (ix2 (n0 := 2048) (n1 := 8192) (x 0) ⟨o + (x 1).val, by have : (x 1).val < 256 := (x 1).isLt; omega⟩) := by
    funext a
    apply Fin.ext
    match a with
    | ⟨0, _⟩ => show 0 + 1 * (x 0).val = (x 0).val; omega
    | ⟨1, _⟩ => show o + 1 * (x 1).val = o + (x 1).val; omega
  rw [he]
  exact (congrArg (slabLo (F := Ideal) x1 x2 o h).2 hx).trans (slabLo_at x1 x2 o h (x 0) (x 1))

theorem slabHi_piece (x1 : Vec Ideal S2048x4096 .i8) (x2 : Vec Ideal S64x8192 .i8) (o : ℕ) (h : o + 256 ≤ 4096)
    (x : (slabHi (F := Ideal) x1 x2 o h).1.shape.Idx) :
    (slabHi (F := Ideal) x1 x2 o h).2 x = wBuf x1 x2 ((slabHi (F := Ideal) x1 x2 o h).1.emb x) := by
  have hx : x = (ix2 (n0 := 2048) (n1 := 256) (x 0) (x 1)) := funext fun a => match a with | ⟨0, _⟩ => rfl | ⟨1, _⟩ => rfl
  have he : (slabHi (F := Ideal) x1 x2 o h).1.emb x = (ix2 (n0 := 2048) (n1 := 8192) (x 0) ⟨4096 + o + (x 1).val, by have : (x 1).val < 256 := (x 1).isLt; omega⟩) := by
    funext a
    apply Fin.ext
    match a with
    | ⟨0, _⟩ => show 0 + 1 * (x 0).val = (x 0).val; omega
    | ⟨1, _⟩ => show 4096 + o + 1 * (x 1).val = 4096 + o + (x 1).val; omega
  rw [he]
  exact (congrArg (slabHi (F := Ideal) x1 x2 o h).2 hx).trans (slabHi_at x1 x2 o h (x 0) (x 1))

theorem scratch_eq (x1 : Vec Ideal S2048x4096 .i8) (x2 : Vec Ideal S64x8192 .i8) :
    View.canon (slabs (F := Ideal) x1 x2) = wBuf x1 x2 := by
  funext y
  refine View.canon_apply_of_pieces (wBuf x1 x2) _ ?_ y (View.cover_of_tiled (slabs (F := Ideal) x1 x2) S2048x256.size (by rfl) y)
  simp only [slabs, List.forall_mem_cons]
  exact ⟨slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    slabHi_piece x1 x2 _ _, slabLo_piece x1 x2 _ _,
    fun _ h => absurd h List.not_mem_nil⟩

/-! ### The product -/

/-- The product of a block of rows with the scratch. -/
def yBuf (x0 : Vec Ideal S256x2048 .bf16) (W : Vec Ideal S2048x8192 .bf16) : Vec Ideal S256x8192 .bf16 := fun y =>
  yAt (row x0 (y 0)) fun k => W (ix2 k (y 1))

theorem pay2_at (x : FVec Ideal S256x2048 .bf16) (w : Vec Ideal S2048x1024 .bf16) (r : Fin 256) (u : Fin 1024) :
    k0_pay2 (F := Ideal) x w (ix2 r u) = ∑ k : Fin 2048, x (ix2 r k) * w (ix2 k u) := by
  pointwise [k0_pay2]

theorem yTile_at (x0 : Vec Ideal S256x2048 .bf16) (W : Vec Ideal S2048x8192 .bf16) (o : ℕ) (h : o + 1024 ≤ 8192) (r : Fin 256) (u : Fin 1024) :
    (yTile (F := Ideal) x0 W o h).2 (ix2 r u) = yBuf x0 W (ix2 r ⟨o + u.val, by omega⟩) := by
  have e : (yTile (F := Ideal) x0 W o h).2 (ix2 r u) = ∑ k : Fin 2048, xw (F := Ideal) x0 (ix2 r k)
      * View.ld W (Rect.unit (s := S2048x8192) ![0, o] S2048x1024.size _) (ix2 k u) := pay2_at _ _ r u
  rw [e]
  show _ = yAt (row x0 r) fun k => W (ix2 k ⟨o + u.val, by omega⟩)
  unfold yAt
  refine Finset.sum_congr rfl fun k _ => ?_
  rw [xw_at, ld_weights _ _ h]

theorem yTile_piece (x0 : Vec Ideal S256x2048 .bf16) (W : Vec Ideal S2048x8192 .bf16) (o : ℕ) (h : o + 1024 ≤ 8192)
    (x : (yTile (F := Ideal) x0 W o h).1.shape.Idx) :
    (yTile (F := Ideal) x0 W o h).2 x = yBuf x0 W ((yTile (F := Ideal) x0 W o h).1.emb x) := by
  have hx : x = (ix2 (n0 := 256) (n1 := 1024) (x 0) (x 1)) := funext fun a => match a with | ⟨0, _⟩ => rfl | ⟨1, _⟩ => rfl
  have he : (yTile (F := Ideal) x0 W o h).1.emb x = (ix2 (n0 := 256) (n1 := 8192) (x 0) ⟨o + (x 1).val, by have : (x 1).val < 1024 := (x 1).isLt; omega⟩) := by
    funext a
    apply Fin.ext
    match a with
    | ⟨0, _⟩ => show 0 + 1 * (x 0).val = (x 0).val; omega
    | ⟨1, _⟩ => show o + 1 * (x 1).val = o + (x 1).val; omega
  rw [he]
  exact (congrArg (yTile (F := Ideal) x0 W o h).2 hx).trans (yTile_at x0 W o h (x 0) (x 1))

theorem y_eq (x0 : Vec Ideal S256x2048 .bf16) (W : Vec Ideal S2048x8192 .bf16) :
    View.canon (yTiles (F := Ideal) x0 W) = yBuf x0 W := by
  funext y
  refine View.canon_apply_of_pieces (yBuf x0 W) _ ?_ y (View.cover_of_tiled (yTiles (F := Ideal) x0 W) S256x1024.size (by rfl) y)
  simp only [yTiles, List.forall_mem_cons]
  exact ⟨yTile_piece x0 W _ _, yTile_piece x0 W _ _, yTile_piece x0 W _ _, yTile_piece x0 W _ _, yTile_piece x0 W _ _, yTile_piece x0 W _ _, yTile_piece x0 W _ _, yTile_piece x0 W _ _, fun _ h => absurd h List.not_mem_nil⟩

end Cert.KernelIdeal.Hand

end
-- ==== Proof.KernelValue.lean ====
module

public import proofs.«01_k».proof.Proof.Blocks
public import proofs.«01_k».proof.Proof.Gen.KernelIdeal.Value

/-! The kernel's three result arrays, index by index: the blocks the grid steps see, the buffers
    they leave, and the arrays those blocks make up. -/

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Hand

variable (m : (ℓ : Loc nD τ sig) → Buf (Elt Ideal) ℓ)

/-! ### The blocks a step sees -/

/-- The activations as the region finds them: 16384 rows. -/
abbrev xArr (c : Dev nD) : Vec Ideal S16384x2048 .bf16 := V m c main_v0

/-- The packed weights. -/
abbrev wArr (c : Dev nD) : Vec Ideal S2048x4096 .i8 := V m c main_arg1

/-- The weights' scales. -/
abbrev sArr (c : Dev nD) : Vec Ideal S64x8192 .i8 := V m c main_arg2

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem lt64 (t : Fin cfg0.N) : t.val < 64 := lt_of_lt_of_eq t.isLt N_0

/-- Step `t` sees rows `256 t` to `256 t + 255` of the activations. -/
theorem iblk0_at (c : Dev nD) (t : Fin cfg0.N) (r : Fin 256) (k : Fin 2048) :
    (iblk m c 0 t : Vec Ideal S256x2048 .bf16) (ix2 r k)
      = xArr m c (ix2 ⟨t.val * 256 + r.val, by have := lt64 t; omega⟩ k) := by
  obtain ⟨e0, e1⟩ := index0 t
  unfold iblk
  rw [View.read_apply]
  show V m c main_v0 _ = V m c main_v0 _
  congr 1
  funext a
  apply Fin.ext
  match a with
  | ⟨0, _⟩ => show win0_0.index t 0 * 256 + 1 * r.val = t.val * 256 + r.val; rw [e0]; omega
  | ⟨1, _⟩ => show win0_0.index t 1 * 2048 + 1 * k.val = k.val; rw [e1]; omega

/-- Every step sees the packed weights whole, -/
theorem iblk1_eq (c : Dev nD) (t : Fin cfg0.N) : (iblk m c 1 t : Vec Ideal S2048x4096 .i8) = wArr m c := by
  obtain ⟨e0, e1⟩ := index1 t
  funext y
  unfold iblk
  rw [View.read_apply]
  show V m c main_arg1 _ = V m c main_arg1 _
  congr 1
  funext a
  apply Fin.ext
  match a with
  | ⟨0, _⟩ => show win0_1.index t 0 * 2048 + 1 * (y 0).val = (y 0).val; rw [e0]; omega
  | ⟨1, _⟩ => show win0_1.index t 1 * 4096 + 1 * (y 1).val = (y 1).val; rw [e1]; omega

/-- and their scales. -/
theorem iblk2_eq (c : Dev nD) (t : Fin cfg0.N) : (iblk m c 2 t : Vec Ideal S64x8192 .i8) = sArr m c := by
  obtain ⟨e0, e1⟩ := index2 t
  funext y
  unfold iblk
  rw [View.read_apply]
  show V m c main_arg2 _ = V m c main_arg2 _
  congr 1
  funext a
  apply Fin.ext
  match a with
  | ⟨0, _⟩ => show win0_2.index t 0 * 64 + 1 * (y 0).val = (y 0).val; rw [e0]; omega
  | ⟨1, _⟩ => show win0_2.index t 1 * 8192 + 1 * (y 1).val = (y 1).val; rw [e1]; omega

/-! ### What a step leaves -/

/-- The decoded weights of this launch. -/
abbrev wDec (c : Dev nD) : Vec Ideal S2048x8192 .bf16 := wBuf (wArr m c) (sArr m c)

/-- The codes a step writes for its rows. -/
def codesBuf (x0 : Vec Ideal S256x2048 .bf16) : Vec Ideal S256x2048 .fp8e4m3 :=
  k0_pay103 (F := Ideal) (k0_pay98 x0) (k0_pay99 x0)

/-- The scales a step writes for its rows. -/
def scalesBuf (x0 : Vec Ideal S256x2048 .bf16) : Vec Ideal S1x2x128 .f32 :=
  k0_pay104 (F := Ideal) (k0_pay100 (F := Ideal) x0) k0_pay101

/-- After every step: the product, codes and scales of its rows, and the scratch still the decoded weights. -/
theorem outs_eq (c : Dev nD) : ∀ (n : ℕ) (hn : n < cfg0.N), outsAt0 m c n hn
    = (yBuf (iblk m c 0 ⟨n, hn⟩) (wDec m c), codesBuf (iblk m c 0 ⟨n, hn⟩), scalesBuf (iblk m c 0 ⟨n, hn⟩), wDec m c) := by
  intro n
  induction n with
  | zero =>
    intro hn
    rw [outsAt0_A m c ⟨0, hn⟩ (Nat.zero_mod _), y_A, codes_A, scales_A, scratch_A, scratch_eq, y_eq, iblk1_eq, iblk2_eq]
    rfl
  | succ n ih =>
    intro hn
    have hN : n + 1 < 64 := lt_of_lt_of_eq hn N_0
    have h0 : ¬ (n + 1) % 64 = 0 := by omega
    have hs : (outsAt0 m c n (Nat.lt_of_succ_lt hn)).2.2.2 = wDec m c := by rw [ih]
    rw [outsAt0_B m c ⟨n + 1, hn⟩ h0, y_B, codes_B, scales_B, y_eq]
    show (yBuf _ (outsAt0 m c n _).2.2.2, _, _, (outsAt0 m c n _).2.2.2) = _
    rw [hs]
    rfl

theorem row_iblk (c : Dev nD) (t : Fin cfg0.N) (r : Fin 256) (R : Fin 16384) (h : R.val = t.val * 256 + r.val) :
    row (iblk m c 0 t) r = fun k => xArr m c (ix2 R k) := by
  funext k
  show (iblk m c 0 t : Vec Ideal S256x2048 .bf16) (ix2 r k) = _
  rw [iblk0_at]
  congr 2
  exact Fin.ext h.symm

/-! ### The result arrays -/

theorem G3_at (c : Dev nD) (r : Fin 16384) (j : Fin 8192) : Value.G3 m c (ix2 r j)
    = yAt (fun k => xArr m c (ix2 r k)) fun k => wAt (fun k u => wArr m c (ix2 k u)) (fun k u => sArr m c (ix2 k u)) k j := by
  have hp : Value.pt3Of (ix2 r j) = r.val / 256 := by
    show 1 * (r.val / 256 - 0) + 1 * (j.val / 8192 - 0) = _
    omega
  have h : Value.pt3Of (ix2 r j) < cfg0.N := lt_of_lt_of_eq (by omega) N_0.symm
  unfold Value.G3
  rw [dif_pos h, ← Value.outsAt0_sweep m c _ h, outs_eq]
  show yAt (row (iblk m c 0 ⟨Value.pt3Of (ix2 r j), h⟩) ⟨r.val % 256, _⟩)
    (fun k => wAt (fun k u => wArr m c (ix2 k u)) (fun k u => sArr m c (ix2 k u)) k ⟨j.val % 8192, _⟩) = _
  rw [row_iblk m c _ _ r (by show r.val = Value.pt3Of (ix2 r j) * 256 + r.val % 256; rw [hp]; omega)]
  have ej : (⟨j.val % 8192, Nat.mod_lt _ (by decide)⟩ : Fin 8192) = j := Fin.ext (Nat.mod_eq_of_lt j.isLt)
  rw [ej]

theorem G4_at (c : Dev nD) (r : Fin 16384) (j : Fin 2048) : Value.G4 m c (ix2 r j)
    = cod (fun k => xArr m c (ix2 r k)) j := by
  have hp : Value.pt4Of (ix2 r j) = r.val / 256 := by
    show 1 * (r.val / 256 - 0) + 1 * (j.val / 2048 - 0) = _
    omega
  have h : Value.pt4Of (ix2 r j) < cfg0.N := lt_of_lt_of_eq (by omega) N_0.symm
  have ei : Value.loc4Of (ix2 r j) = ix2 ⟨r.val % 256, Nat.mod_lt _ (by decide)⟩ j := by
    funext a
    apply Fin.ext
    match a with
    | ⟨0, _⟩ => rfl
    | ⟨1, _⟩ => exact Nat.mod_eq_of_lt j.isLt
  unfold Value.G4
  rw [dif_pos h, ← Value.outsAt0_sweep m c _ h, outs_eq, ei]
  show codesBuf (iblk m c 0 ⟨Value.pt4Of (ix2 r j), h⟩) (ix2 _ j) = _
  unfold codesBuf
  rw [codes_at, row_iblk m c _ _ r (by show r.val = Value.pt4Of (ix2 r j) * 256 + r.val % 256; rw [hp]; omega)]

theorem G5_at (c : Dev nD) (t : Fin 64) (r : Fin 2) (u : Fin 128) : Value.G5 m c (ix3 t r u)
    = scl (fun k => xArr m c (ix2 ⟨t.val * 256 + r.val * 128 + u.val, by omega⟩ k)) := by
  have hp : Value.pt5Of (ix3 t r u) = t.val := by
    show 1 * (t.val / 1 - 0) + 1 * (r.val / 2 - 0) + 1 * (u.val / 128 - 0) = _
    omega
  have h : Value.pt5Of (ix3 t r u) < cfg0.N := lt_of_lt_of_eq (by omega) N_0.symm
  have ei : Value.loc5Of (ix3 t r u) = ix3 0 r u := by
    funext a
    apply Fin.ext
    match a with
    | ⟨0, _⟩ => exact Nat.mod_one _
    | ⟨1, _⟩ => exact Nat.mod_eq_of_lt r.isLt
    | ⟨2, _⟩ => exact Nat.mod_eq_of_lt u.isLt
  unfold Value.G5
  rw [dif_pos h, ← Value.outsAt0_sweep m c _ h, outs_eq, ei]
  show scalesBuf (iblk m c 0 ⟨Value.pt5Of (ix3 t r u), h⟩) (ix3 0 r u) = _
  unfold scalesBuf
  rw [scales_at, row_iblk m c _ _ ⟨t.val * 256 + r.val * 128 + u.val, by omega⟩
    (by show t.val * 256 + r.val * 128 + u.val = Value.pt5Of (ix3 t r u) * 256 + (r.val * 128 + u.val); rw [hp]; omega)]

end Cert.KernelIdeal.Hand

end
-- ==== Proof.RefQuantize.lean ====
module

public import proofs.«01_k».proof.Proof.Quantize
public import proofs.«01_k».proof.Proof.Gen.ReferenceIdeal.Value
public import Idealize.ShloMosaic.Lib.Pointwise

/-! The reference's rows: the exponent, the codes and the scale of a row. -/

@[expose] public section

set_option maxRecDepth 16384

noncomputable section

open Idealize.ShloMosaic

namespace Cert.ReferenceIdeal.Hand

open Cert.ReferenceIdeal Cert.ReferenceIdeal.Gen Cert.Hand

/-- The row of the activations. -/
abbrev row (x : Vec Ideal S16384x2048 .bf16) (r : Fin 16384) : Fin 2048 → EReal := fun k => x (ix2 r k)

/-- The largest magnitudes of the rows, as a column. -/
def amaxCol (v2 : FVec Ideal S16384x2048 .f32) : FVec Ideal S16384x1 .f32 :=
  shapeCast S16384x1 (multiReduction .maximumf [1] S16384 (absf v2) 0xFF800000#32 reduces_S16384x2048_S16384 (.inl rfl) rfl) shapeCasts_S16384_S16384x1

/-- The 253 candidate exponents. -/
def expRow : FVec Ideal S1x253 .f32 :=
  subf (sitofp .f32 (iota .tc S1x253 32 [1] iota_S1x253_d1_w32)) (broadcast S1x253 (Scalar.ofBits .f32 0x42FA0000#32))

/-- The powers of two of the candidate exponents. -/
def powRow (v13 : FVec Ideal S1x253 .f32) : FVec Ideal S1x253 .f32 :=
  select (cmpf .olt v13 (broadcast S1x253 (Scalar.ofBits (F := Ideal) .f32 0xC2FC0000#32)))
    (broadcast S1x253 (Scalar.ofBits (F := Ideal) .f32 0x00000000#32))
    (select (cmpf .ogt v13 (broadcast S1x253 (Scalar.ofBits (F := Ideal) .f32 0x42FE0000#32)))
      (broadcast S1x253 (Scalar.ofBits (F := Ideal) .f32 0x7F800000#32)) (exp2 v13))

/-- The candidate exponents whose power exceeds the row's number, 128 for the others. -/
def cand (v9 : FVec Ideal S16384x1 .f32) (v13 v22 : FVec Ideal S1x253 .f32) : FVec Ideal S16384x253 .f32 :=
  select (cmpf .olt (broadcastTo S16384x253 v9 broadcasts_S16384x1_S16384x253) (broadcastTo S16384x253 v22 broadcasts_S1x253_S16384x253))
    (broadcastTo S16384x253 (shapeCast S1x253 v13 shapeCasts_S1x253_S1x253) broadcasts_S1x253_S16384x253)
    (broadcast S16384x253 (Scalar.ofBits (F := Ideal) .f32 0x43000000#32))

/-- The smallest entries of the rows, as a column. -/
def minCol (v29 : FVec Ideal S16384x253 .f32) : FVec Ideal S16384x1 .f32 :=
  shapeCast S16384x1 (multiReduction .minimumf [1] S16384 v29 0x7F800000#32 reduces_S16384x253_S16384 (.inl rfl) rfl) shapeCasts_S16384_S16384x1

/-- The exponents from the largest magnitudes and the smallest candidates. -/
def expCol (v5 v31 : FVec Ideal S16384x1 .f32) : FVec Ideal S16384x1 .f32 :=
  select (cmpf .oeq v5 (broadcast S16384x1 (Scalar.ofBits (F := Ideal) .f32 0x00000000#32)))
    (broadcast S16384x1 (Scalar.ofBits (F := Ideal) .f32 0x00000000#32))
    (select (ori (cmpf .olt (mulf v5 (broadcast S16384x1 (Scalar.ofBits (F := Ideal) .f32 0x3B124925#32)))
          (broadcast S16384x1 (Scalar.ofBits (F := Ideal) .f32 0x00800000#32)))
        (cmpf .oeq (mulf v5 (broadcast S16384x1 (Scalar.ofBits (F := Ideal) .f32 0x3B124925#32)))
          (broadcast S16384x1 (Scalar.ofBits (F := Ideal) .f32 0x7F800000#32))))
      (broadcast S16384x1 (Scalar.ofBits (F := Ideal) .f32 0x00000000#32)) v31)

theorem pay3_eq (x : Vec Ideal S16384x2048 .bf16) :
    k0_pay3 (F := Ideal) x = expCol (amaxCol (k0_pay2 x)) (minCol (cand (mulf (amaxCol (k0_pay2 x))
      (broadcast S16384x1 (Scalar.ofBits (F := Ideal) .f32 0x3B124925#32))) expRow (powRow expRow))) := rfl

theorem amaxCol_at (x : Vec Ideal S16384x2048 .bf16) (r : Fin 16384) (u : Fin 1) :
    amaxCol (k0_pay2 (F := Ideal) x) (ix2 r u) = amax (row x r) := by
  pointwise [amaxCol, k0_pay2]
  rfl

theorem expRow_at (u : Fin 1) (k : Fin 253) : expRow (ix2 u k) = thrExp k := by
  pointwise [expRow]
  rfl

theorem powRow_at (e : FVec Ideal S1x253 .f32) (u : Fin 1) (k : Fin 253) : powRow e (ix2 u k) = ldexp1 (e (ix2 u k)) := by
  pointwise [powRow]
  rfl

theorem cand_at (v : FVec Ideal S16384x1 .f32) (e p : FVec Ideal S1x253 .f32) (r : Fin 16384) (k : Fin 253) :
    cand v e p (ix2 r k) = if v (ix2 r 0) < p (ix2 0 k) then e (ix2 0 k) else Ideal.ofBits .f32 0x43000000#32 := by
  pointwise [cand]

theorem minCol_at (v : FVec Ideal S16384x253 .f32) (r : Fin 16384) (u : Fin 1) :
    minCol v (ix2 r u) = Finset.univ.fold min (Ideal.ofBits .f32 0x7F800000#32) fun k : Fin 253 => v (ix2 r k) := by
  pointwise [minCol]

theorem expCol_at (v5 v31 : FVec Ideal S16384x1 .f32) (r : Fin 16384) (u : Fin 1) :
    expCol v5 v31 (ix2 r u) = if v5 (ix2 r u) = 0 then 0 else
      if v5 (ix2 r u) * Ideal.ofBits .f32 0x3B124925#32 < Ideal.ofBits .f32 0x00800000#32
        ∨ v5 (ix2 r u) * Ideal.ofBits .f32 0x3B124925#32 = Ideal.ofBits .f32 0x7F800000#32 then 0 else v31 (ix2 r u) := by
  pointwise [expCol]
  by_cases h1 : v5 (ix2 r u) * Ideal.ofBits .f32 0x3B124925#32 < Ideal.ofBits .f32 0x00800000#32 <;>
  by_cases h2 : v5 (ix2 r u) * Ideal.ofBits .f32 0x3B124925#32 = Ideal.ofBits .f32 0x7F800000#32 <;>
  simp only [h1, h2, Scalar.select, IntOp.ori, decide_true, decide_false, or_true, true_or, or_self, if_true, if_false] <;> rfl

theorem overTop_at (v : FVec Ideal S16384x1 .f32) (r : Fin 16384) (u : Fin 1) :
    (mulf v (broadcast S16384x1 (Scalar.ofBits (F := Ideal) .f32 0x3B124925#32))) (ix2 r u) = v (ix2 r u) * Ideal.ofBits .f32 0x3B124925#32 := by
  pointwise []

theorem pay6_at (v : FVec Ideal S16384x2048 .f32) (e : FVec Ideal S16384x1 .f32) (r : Fin 16384) (u : Fin 2048) :
    k0_pay6 (F := Ideal) v e (ix2 r u)
      = min (Ideal.ofBits .f32 0x43E00000#32) (max (Ideal.ofBits .f32 0xC3E00000#32) (v (ix2 r u) * ldexp1 (0 - e (ix2 r 0)))) := by
  pointwise [k0_pay6]
  rfl

theorem pay5_at (e : FVec Ideal S16384x1 .f32) (r : Fin 16384) (u : Fin 1) :
    k0_pay5 (F := Ideal) e (cmpf .olt e (broadcast S16384x1 (Scalar.ofBits (F := Ideal) .f32 0xC2FC0000#32))) (ix2 r u)
      = ldexp1 (e (ix2 r u)) := by
  pointwise [k0_pay5]
  rfl

theorem pay7_at (e : FVec Ideal S16384x1 .f32) (t : Fin 64) (r : Fin 2) (u : Fin 128) :
    shapeCast S64x2x128 e shapeCasts_S16384x1_S64x2x128 (ix3 t r u) = e (ix2 ⟨t.val * 256 + r.val * 128 + u.val, by omega⟩ 0) := by
  pointwise []

theorem times_at (f : FVec Ideal S16384x2048 .fp8e4m3) (e : FVec Ideal S16384x1 .f32) (r : Fin 16384) (u : Fin 2048) :
    (mulf (extf .bf16 f bitsLt_fp8e4m3_bf16) (broadcastTo S16384x2048 (truncf .bf16 e bitsLt_bf16_f32) broadcasts_S16384x1_S16384x2048)) (ix2 r u)
      = f (ix2 r u) * e (ix2 r 0) := by
  pointwise []

theorem pay3_at (x : Vec Ideal S16384x2048 .bf16) (r : Fin 16384) (u : Fin 1) :
    k0_pay3 (F := Ideal) x (ix2 r u) = expRef (rowV (row x r)) := by
  rw [pay3_eq, expCol_at, minCol_at]
  simp only [cand_at, powRow_at, expRow_at, overTop_at, amaxCol_at]
  by_cases h : amax (row x r) = 0
  · rw [if_pos h]
    have : rowV (row x r) = 0 := by unfold rowV; rw [h, zero_mul]
    rw [this, expRef_zero]
  · rw [if_neg h]
    rfl

theorem pay2_at (x : Vec Ideal S16384x2048 .bf16) (r : Fin 16384) (u : Fin 2048) : k0_pay2 (F := Ideal) x (ix2 r u) = x (ix2 r u) := by
  pointwise [k0_pay2]

theorem codes_at (x : Vec Ideal S16384x2048 .bf16) (r : Fin 16384) (u : Fin 2048) :
    k0_pay6 (F := Ideal) (k0_pay2 x) (k0_pay3 x) (ix2 r u) = cod (row x r) u := by
  rw [pay6_at, pay3_at, pay2_at]
  rfl

/-- The scales, as a column. -/
theorem scale_at (x : Vec Ideal S16384x2048 .bf16) (r : Fin 16384) (u : Fin 1) :
    k0_pay5 (F := Ideal) (k0_pay3 x) (k0_pay4 x) (ix2 r u) = scl (row x r) := by
  unfold k0_pay4
  rw [pay5_at, pay3_at]
  rfl

theorem scales_at (x : Vec Ideal S16384x2048 .bf16) (t : Fin 64) (r : Fin 2) (u : Fin 128) :
    k0_pay7 (F := Ideal) (k0_pay3 x) (k0_pay4 x) (ix3 t r u)
      = scl (row x ⟨t.val * 256 + r.val * 128 + u.val, by omega⟩) := by
  unfold k0_pay7
  rw [pay7_at, scale_at]

theorem xw_at (x : Vec Ideal S16384x2048 .bf16) (r : Fin 16384) (u : Fin 2048) :
    k0_pay8 (F := Ideal) (k0_pay2 x) (k0_pay3 x) (k0_pay4 x) (ix2 r u) = cod (row x r) u * scl (row x r) := by
  unfold k0_pay8
  rw [times_at, codes_at, scale_at]

end Cert.ReferenceIdeal.Hand

end
-- ==== Proof.RefWeights.lean ====
module

public import proofs.«01_k».proof.Proof.RefQuantize
public import proofs.«01_k».proof.Proof.Result

/-! The reference's decoded weights and its product. -/

@[expose] public section

set_option maxRecDepth 16384

noncomputable section

open Idealize.ShloMosaic

namespace Cert.ReferenceIdeal.Hand

open Cert.ReferenceIdeal Cert.ReferenceIdeal.Gen Cert.Hand

/-! ### One field -/

/-- The magnitude the reference selects from the three low bits. -/
def magTree (b0 b1 b2 : BitVec 1) : EReal :=
  Scalar.select b2
    (Scalar.select b1 (Scalar.select b0 (Ideal.ofBits .f32 0x40C00000#32) (Ideal.ofBits .f32 0x40800000#32))
      (Scalar.select b0 (Ideal.ofBits .f32 0x40400000#32) (Ideal.ofBits .f32 0x40000000#32)))
    (Scalar.select b1 (Scalar.select b0 (Ideal.ofBits .f32 0x3FC00000#32) 1)
      (Scalar.select b0 (Ideal.ofBits .f32 0x3F000000#32) 0))

/-- The signed value the reference selects from the four bits. -/
def fieldTree (b0 b1 b2 b3 : BitVec 1) : EReal := Scalar.select b3 (0 - magTree b0 b1 b2) (magTree b0 b1 b2)

theorem c_6 : Ideal.ofBits .f32 0x40C00000#32 = ((6 : ℝ) : EReal) := by
  refine (ieee_normal 23 0x40C00000#32 false 129 0x400000 (by decide) (by decide) (by decide) (by decide) (by decide)).trans ?_
  norm_num [zpow_neg]
theorem c_4 : Ideal.ofBits .f32 0x40800000#32 = ((4 : ℝ) : EReal) := by
  refine (ieee_normal 23 0x40800000#32 false 129 0 (by decide) (by decide) (by decide) (by decide) (by decide)).trans ?_
  norm_num [zpow_neg]
theorem c_3 : Ideal.ofBits .f32 0x40400000#32 = ((3 : ℝ) : EReal) := by
  refine (ieee_normal 23 0x40400000#32 false 128 0x400000 (by decide) (by decide) (by decide) (by decide) (by decide)).trans ?_
  norm_num [zpow_neg]
theorem c_2 : Ideal.ofBits .f32 0x40000000#32 = ((2 : ℝ) : EReal) := by
  refine (ieee_normal 23 0x40000000#32 false 128 0 (by decide) (by decide) (by decide) (by decide) (by decide)).trans ?_
  norm_num [zpow_neg]
theorem c_3_2 : Ideal.ofBits .f32 0x3FC00000#32 = ((3 / 2 : ℝ) : EReal) := by
  refine (ieee_normal 23 0x3FC00000#32 false 127 0x400000 (by decide) (by decide) (by decide) (by decide) (by decide)).trans ?_
  congr 1
  norm_num [zpow_neg]
theorem c_1_2 : Ideal.ofBits .f32 0x3F000000#32 = ((1 / 2 : ℝ) : EReal) := by
  refine (ieee_normal 23 0x3F000000#32 false 126 0 (by decide) (by decide) (by decide) (by decide) (by decide)).trans ?_
  congr 1
  norm_num [zpow_neg]

theorem magTree_val (b0 b1 b2 : Bool) :
    magTree (BitVec.ofBool b0) (BitVec.ofBool b1) (BitVec.ofBool b2) = ((mag b0 b1 b2 : ℝ) : EReal) := by
  unfold magTree
  rw [c_6, c_4, c_3, c_2, c_3_2, c_1_2]
  cases b0 <;> cases b1 <;> cases b2 <;> simp [mag, Scalar.select]

theorem fieldTree_val (b0 b1 b2 b3 : Bool) :
    fieldTree (BitVec.ofBool b0) (BitVec.ofBool b1) (BitVec.ofBool b2) (BitVec.ofBool b3) = nib b0 b1 b2 b3 := by
  unfold fieldTree nib
  rw [magTree_val]
  cases b3 <;> simp [Scalar.select]

/-- The tests of a word against 1, 2, 4 and 8. -/
abbrev bit (c k : BitVec 32) : BitVec 1 := IntOp.cmpi .ne (IntOp.andi c k) 0#32

theorem lo_bits (b : BitVec 8) :
    bit (IntOp.andi (b.setWidth 32) 15#32) 1#32 = BitVec.ofBool (b.getLsbD 0)
    ∧ bit (IntOp.andi (b.setWidth 32) 15#32) 2#32 = BitVec.ofBool (b.getLsbD 1)
    ∧ bit (IntOp.andi (b.setWidth 32) 15#32) 4#32 = BitVec.ofBool (b.getLsbD 2)
    ∧ bit (IntOp.andi (b.setWidth 32) 15#32) 8#32 = BitVec.ofBool (b.getLsbD 3) := by
  revert b
  decide +kernel

theorem hi_bits (b : BitVec 8) :
    bit (IntOp.shrsi .vector (b.setWidth 32) 4#32) 1#32 = BitVec.ofBool (b.getLsbD 4)
    ∧ bit (IntOp.shrsi .vector (b.setWidth 32) 4#32) 2#32 = BitVec.ofBool (b.getLsbD 5)
    ∧ bit (IntOp.shrsi .vector (b.setWidth 32) 4#32) 4#32 = BitVec.ofBool (b.getLsbD 6)
    ∧ bit (IntOp.shrsi .vector (b.setWidth 32) 4#32) 8#32 = BitVec.ofBool (b.getLsbD 7) := by
  revert b
  decide +kernel

theorem scale_byte (b : BitVec 8) :
    ldexp1 (FloatOps.sitofp (F := Ideal) .f32 (b.setWidth 32) - Ideal.ofBits .f32 0x42FE0000#32) = P b.toNat := by
  rw [c_127]
  have h : (b.setWidth 32).toInt = (b.toNat : ℤ) := by
    revert b
    decide +kernel
  have h' : FloatOps.sitofp (F := Ideal) .f32 (b.setWidth 32) = (((b.toNat : ℤ) : ℝ) : EReal) := by
    show (((b.setWidth 32).toInt : ℝ) : EReal) = _
    rw [h]
  rw [h', ← EReal.coe_sub, ← Int.cast_sub]
  exact ldexp1_field _ b.isLt

/-! ### The vectors -/

/-- The magnitudes from the three low bits. -/
def magVec (m0 m1 m2 : IVec S2048x4096 1) : FVec Ideal S2048x4096 .f32 :=
  select m2
    (select m1 (select m0 (broadcast S2048x4096 (Scalar.ofBits (F := Ideal) .f32 0x40C00000#32)) (broadcast S2048x4096 (Scalar.ofBits (F := Ideal) .f32 0x40800000#32)))
      (select m0 (broadcast S2048x4096 (Scalar.ofBits (F := Ideal) .f32 0x40400000#32)) (broadcast S2048x4096 (Scalar.ofBits (F := Ideal) .f32 0x40000000#32))))
    (select m1 (select m0 (broadcast S2048x4096 (Scalar.ofBits (F := Ideal) .f32 0x3FC00000#32)) (broadcast S2048x4096 (Scalar.ofBits (F := Ideal) .f32 0x3F800000#32)))
      (select m0 (broadcast S2048x4096 (Scalar.ofBits (F := Ideal) .f32 0x3F000000#32)) (broadcast S2048x4096 (Scalar.ofBits (F := Ideal) .f32 0x00000000#32))))

/-- The signed fields. -/
def fieldVec (m : FVec Ideal S2048x4096 .f32) (m3 : IVec S2048x4096 1) : FVec Ideal S2048x4096 .bf16 :=
  truncf .bf16 (select m3 (subf (broadcast S2048x4096 (Scalar.ofBits (F := Ideal) .f32 0x00000000#32)) m) m) bitsLt_bf16_f32

/-- The scales, one for each row of weights. -/
def scaleVec (s : FVec Ideal S64x4096 .bf16) : FVec Ideal S2048x4096 .bf16 :=
  shapeCast S2048x4096 (broadcastTo S64x32x4096 (shapeCast S64x1x4096 (shapeCast S64x1x4096 s shapeCasts_S64x4096_S64x1x4096)
    shapeCasts_S64x1x4096_S64x1x4096) broadcasts_S64x1x4096_S64x32x4096) shapeCasts_S64x32x4096_S2048x4096

/-- The product of the rows with one half of the weights. -/
def prodVec (a : FVec Ideal S16384x2048 .bf16) (w : FVec Ideal S2048x4096 .bf16) : FVec Ideal S16384x4096 .f32 :=
  matmul dot_S16384x2048_S2048x4096_S16384x4096_1_0_0_1_n_n none a w (constant S16384x4096 .f32 0x00000000#32)

/-- The two halves side by side. -/
def sideVec (a b : FVec Ideal S16384x4096 .f32) : FVec Ideal S16384x8192 .bf16 :=
  truncf .bf16 (concatenate S16384x8192 1 [⟨S16384x4096, a⟩, ⟨S16384x4096, b⟩] concatenates_S16384x4096_S16384x4096_S16384x8192_d1) bitsLt_bf16_f32

theorem pay19_eq (a : FVec Ideal S16384x2048 .bf16) (s : FVec Ideal S64x4096 .bf16) (c : IVec S2048x4096 32) :
    k0_pay19 (F := Ideal) a s (k0_pay13 c) (k0_pay14 c) (k0_pay15 c) (k0_pay16 c) (k0_pay17 (F := Ideal) c) (k0_pay18 (F := Ideal) c)
        (Scalar.ofBits (F := Ideal) .f32 0x3F000000#32) (Scalar.ofBits (F := Ideal) .f32 0x00000000#32)
      = prodVec a (mulf (fieldVec (magVec (k0_pay13 c) (k0_pay14 c) (k0_pay15 c)) (k0_pay16 c)) (scaleVec s)) := rfl

theorem pay1_eq (a : FVec Ideal S16384x2048 .bf16) (p : FVec Ideal S16384x4096 .f32) (c : IVec S2048x4096 32) (s : FVec Ideal S64x4096 .bf16)
    (m0 m1 m2 : IVec S2048x4096 1) :
    k0_pay1 (F := Ideal) a p c s m0 m1 m2
      = sideVec p (prodVec a (mulf (fieldVec (magVec m0 m1 m2) (cmpi .ne (andi c (broadcast S2048x4096 8#32)) (broadcast S2048x4096 0#32))) (scaleVec s))) := rfl

theorem magVec_at (m0 m1 m2 : IVec S2048x4096 1) (r : Fin 2048) (u : Fin 4096) :
    magVec m0 m1 m2 (ix2 r u) = magTree (m0 (ix2 r u)) (m1 (ix2 r u)) (m2 (ix2 r u)) := by
  pointwise [magVec]
  rfl

theorem weight_at (m : FVec Ideal S2048x4096 .f32) (m3 : IVec S2048x4096 1) (s : FVec Ideal S64x4096 .bf16) (r : Fin 2048) (u : Fin 4096) :
    (mulf (fieldVec m m3) (scaleVec s)) (ix2 r u)
      = Scalar.select (m3 (ix2 r u)) (0 - m (ix2 r u)) (m (ix2 r u)) * s (ix2 ⟨r.val / 32, by omega⟩ u) := by
  pointwise [fieldVec, scaleVec]

theorem prodVec_at (a : FVec Ideal S16384x2048 .bf16) (w : FVec Ideal S2048x4096 .bf16) (r : Fin 16384) (u : Fin 4096) :
    prodVec a w (ix2 r u) = ∑ k : Fin 2048, a (ix2 r k) * w (ix2 k u) := by
  pointwise [prodVec]

theorem sideVec_at (a b : FVec Ideal S16384x4096 .f32) (r : Fin 16384) (j : Fin 8192) :
    sideVec a b (ix2 r j) = if h : j.val < 4096 then a (ix2 r ⟨j.val, h⟩) else b (ix2 r ⟨j.val - 4096, by omega⟩) := by
  pointwise [sideVec]

/-! ### The decoded halves -/

theorem lo_scale_at (w : Vec Ideal S64x4096 .i8) (r : Fin 64) (u : Fin 4096) :
    k0_pay12 (F := Ideal) (k0_pay11 (F := Ideal) w) (ix2 r u) = P (w (ix2 r u)).toNat := by
  refine Eq.trans ?_ (scale_byte (w (ix2 r u)))
  pointwise [k0_pay12, k0_pay11]
  rfl

theorem hi_scale_at (w : Vec Ideal S64x4096 .i8) (r : Fin 64) (u : Fin 4096) :
    k0_pay21 (F := Ideal) w (ix2 r u) = P (w (ix2 r u)).toNat := by
  refine Eq.trans ?_ (scale_byte (w (ix2 r u)))
  pointwise [k0_pay21]
  rfl

theorem lo_fields (b : Vec Ideal S2048x4096 .i8) (r : Fin 2048) (u : Fin 4096) :
    k0_pay13 (k0_pay10 (F := Ideal) b) (ix2 r u) = BitVec.ofBool ((b (ix2 r u)).getLsbD 0)
    ∧ k0_pay14 (k0_pay10 (F := Ideal) b) (ix2 r u) = BitVec.ofBool ((b (ix2 r u)).getLsbD 1)
    ∧ k0_pay15 (k0_pay10 (F := Ideal) b) (ix2 r u) = BitVec.ofBool ((b (ix2 r u)).getLsbD 2)
    ∧ k0_pay16 (k0_pay10 (F := Ideal) b) (ix2 r u) = BitVec.ofBool ((b (ix2 r u)).getLsbD 3) :=
  lo_bits (b (ix2 r u))

theorem hi_fields (b : Vec Ideal S2048x4096 .i8) (r : Fin 2048) (u : Fin 4096) :
    k0_pay22 (k0_pay9 (F := Ideal) b) (ix2 r u) = BitVec.ofBool ((b (ix2 r u)).getLsbD 4)
    ∧ k0_pay23 (k0_pay9 (F := Ideal) b) (ix2 r u) = BitVec.ofBool ((b (ix2 r u)).getLsbD 5)
    ∧ k0_pay24 (k0_pay9 (F := Ideal) b) (ix2 r u) = BitVec.ofBool ((b (ix2 r u)).getLsbD 6)
    ∧ (cmpi .ne (andi (k0_pay20 (k0_pay9 (F := Ideal) b)) (broadcast S2048x4096 8#32)) (broadcast S2048x4096 0#32)) (ix2 r u)
      = BitVec.ofBool ((b (ix2 r u)).getLsbD 7) :=
  hi_bits (b (ix2 r u))

theorem lo_at (b : Vec Ideal S2048x4096 .i8) (w : Vec Ideal S64x4096 .i8) (r : Fin 2048) (u : Fin 4096) :
    (mulf (fieldVec (magVec (k0_pay13 (k0_pay10 (F := Ideal) b)) (k0_pay14 (k0_pay10 (F := Ideal) b)) (k0_pay15 (k0_pay10 (F := Ideal) b)))
        (k0_pay16 (k0_pay10 (F := Ideal) b))) (scaleVec (k0_pay12 (F := Ideal) (k0_pay11 (F := Ideal) w)))) (ix2 r u)
      = wLo (b (ix2 r u)) (w (ix2 ⟨r.val / 32, by omega⟩ u)) := by
  obtain ⟨h0, h1, h2, h3⟩ := lo_fields b r u
  rw [weight_at, magVec_at, lo_scale_at, h0, h1, h2, h3]
  exact congrArg (· * _) (fieldTree_val _ _ _ _)

theorem hi_at (b : Vec Ideal S2048x4096 .i8) (w : Vec Ideal S64x4096 .i8) (r : Fin 2048) (u : Fin 4096) :
    (mulf (fieldVec (magVec (k0_pay22 (k0_pay9 (F := Ideal) b)) (k0_pay23 (k0_pay9 (F := Ideal) b)) (k0_pay24 (k0_pay9 (F := Ideal) b)))
        (cmpi .ne (andi (k0_pay20 (k0_pay9 (F := Ideal) b)) (broadcast S2048x4096 8#32)) (broadcast S2048x4096 0#32)))
        (scaleVec (k0_pay21 (F := Ideal) w))) (ix2 r u)
      = wHi (b (ix2 r u)) (w (ix2 ⟨r.val / 32, by omega⟩ u)) := by
  obtain ⟨h0, h1, h2, h3⟩ := hi_fields b r u
  rw [weight_at, magVec_at, hi_scale_at, h0, h1, h2, h3]
  exact congrArg (· * _) (fieldTree_val _ _ _ _)

/-! ### What the body leaves in its three outputs -/

theorem ld_lo (x2 : Vec Ideal S64x8192 .i8) (r : Fin 64) (u : Fin 4096) :
    View.ld x2 r0_3 (ix2 r u) = x2 (ix2 r ⟨u.val, by omega⟩) := by
  show x2 _ = x2 _
  congr 1
  funext a
  apply Fin.ext
  match a with
  | ⟨0, _⟩ => show 0 + 1 * r.val = r.val; omega
  | ⟨1, _⟩ => show 0 + 1 * u.val = u.val; omega

theorem ld_hi (x2 : Vec Ideal S64x8192 .i8) (r : Fin 64) (u : Fin 4096) :
    View.ld x2 r0_4 (ix2 r u) = x2 (ix2 r ⟨4096 + u.val, by omega⟩) := by
  show x2 _ = x2 _
  congr 1
  funext a
  apply Fin.ext
  match a with
  | ⟨0, _⟩ => show 0 + 1 * r.val = r.val; omega
  | ⟨1, _⟩ => show 4096 + 1 * u.val = 4096 + u.val; omega

theorem hz2 : (![0, 0] : Fin 2 → Nat) = fun _ => 0 := funext fun a => by fin_cases a <;> rfl
theorem hz3 : (![0, 0, 0] : Fin 3 → Nat) = fun _ => 0 := funext fun a => by fin_cases a <;> rfl

theorem codes_out (x0 : Vec Ideal S16384x2048 .bf16) (x1 : Vec Ideal S2048x4096 .i8) (x2 : Vec Ideal S64x8192 .i8)
    (r : Fin 16384) (u : Fin 2048) : out0_4 (F := Ideal) x0 x1 x2 (ix2 r u) = cod (row x0 r) u := by
  have h : out0_4 (F := Ideal) x0 x1 x2 = k0_pay6 (F := Ideal) (k0_pay2 x0) (k0_pay3 x0) := by
    unfold_out out0_4
    rw [View.canon_unit_zero hz2, View.ld_unit_zero (S := S16384x2048) hz2]
  rw [h, codes_at]

theorem scales_out (x0 : Vec Ideal S16384x2048 .bf16) (x1 : Vec Ideal S2048x4096 .i8) (x2 : Vec Ideal S64x8192 .i8)
    (t : Fin 64) (r : Fin 2) (u : Fin 128) :
    out0_5 (F := Ideal) x0 x1 x2 (ix3 t r u) = scl (row x0 ⟨t.val * 256 + r.val * 128 + u.val, by omega⟩) := by
  have h : out0_5 (F := Ideal) x0 x1 x2 = k0_pay7 (F := Ideal) (k0_pay3 x0) (k0_pay4 x0) := by
    unfold_out out0_5
    rw [View.canon_unit_zero hz3, View.ld_unit_zero (S := S16384x2048) hz2]
  rw [h, scales_at]

theorem y_out (x0 : Vec Ideal S16384x2048 .bf16) (x1 : Vec Ideal S2048x4096 .i8) (x2 : Vec Ideal S64x8192 .i8)
    (r : Fin 16384) (j : Fin 8192) :
    out0_3 (F := Ideal) x0 x1 x2 (ix2 r j)
      = yAt (row x0 r) fun k => wAt (fun k u => x1 (ix2 k u)) (fun k u => x2 (ix2 k u)) k j := by
  have h : out0_3 (F := Ideal) x0 x1 x2 = sideVec
      (prodVec (k0_pay8 (F := Ideal) (k0_pay2 x0) (k0_pay3 x0) (k0_pay4 x0))
        (mulf (fieldVec (magVec (k0_pay13 (k0_pay10 (F := Ideal) x1)) (k0_pay14 (k0_pay10 (F := Ideal) x1)) (k0_pay15 (k0_pay10 (F := Ideal) x1)))
        (k0_pay16 (k0_pay10 (F := Ideal) x1))) (scaleVec (k0_pay12 (F := Ideal) (k0_pay11 (F := Ideal) (View.ld x2 r0_3))))))
      (prodVec (k0_pay8 (F := Ideal) (k0_pay2 x0) (k0_pay3 x0) (k0_pay4 x0))
        (mulf (fieldVec (magVec (k0_pay22 (k0_pay9 (F := Ideal) x1)) (k0_pay23 (k0_pay9 (F := Ideal) x1)) (k0_pay24 (k0_pay9 (F := Ideal) x1)))
        (cmpi .ne (andi (k0_pay20 (k0_pay9 (F := Ideal) x1)) (broadcast S2048x4096 8#32)) (broadcast S2048x4096 0#32)))
        (scaleVec (k0_pay21 (F := Ideal) (View.ld x2 r0_4))))) := by
    unfold_out out0_3
    rw [View.canon_unit_zero hz2, View.ld_unit_zero (S := S16384x2048) hz2, View.ld_unit_zero (S := S2048x4096) hz2, pay19_eq, pay1_eq]
  rw [h, sideVec_at]
  unfold yAt wAt
  by_cases hj : j.val < 4096
  · rw [dif_pos hj, prodVec_at]
    refine Finset.sum_congr rfl fun k _ => ?_
    beta_reduce
    rw [dif_pos hj, xw_at, lo_at, ld_lo]
  · rw [dif_neg hj, prodVec_at]
    refine Finset.sum_congr rfl fun k _ => ?_
    beta_reduce
    have e : (⟨4096 + (j.val - 4096), by omega⟩ : Fin 8192) = j := Fin.ext (by show 4096 + (j.val - 4096) = j.val; omega)
    rw [dif_neg hj, xw_at, hi_at, ld_hi, e]

end Cert.ReferenceIdeal.Hand

end
-- ==== Proof.RefValue.lean ====
module

public import proofs.«01_k».proof.Proof.RefWeights
public import proofs.«01_k».proof.Proof.Gen.ReferenceIdeal.Value

/-! The reference's three result arrays, index by index: its one step sees and writes whole arrays. -/

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal Cert.ReferenceIdeal.Gen Cert.Hand

variable (m : (ℓ : Loc nD τ sig) → Buf (Elt Ideal) ℓ)

/-- The activations as the region finds them: 16384 rows. -/
abbrev xArr (c : Dev nD) : Vec Ideal S16384x2048 .bf16 := V m c main_v0

/-- The packed weights. -/
abbrev wArr (c : Dev nD) : Vec Ideal S2048x4096 .i8 := V m c main_arg1

/-- The weights' scales. -/
abbrev sArr (c : Dev nD) : Vec Ideal S64x8192 .i8 := V m c main_arg2

/-- The one step sees the activations whole, -/
theorem iblk0_eq (c : Dev nD) (t : Fin cfg0.N) : (iblk m c 0 t : Vec Ideal S16384x2048 .bf16) = xArr m c := by
  funext y
  unfold iblk
  rw [View.read_apply]
  show V m c main_v0 _ = V m c main_v0 _
  congr 1
  funext a
  apply Fin.ext
  match a with
  | ⟨0, _⟩ => show 0 * 16384 + 1 * (y 0).val = (y 0).val; omega
  | ⟨1, _⟩ => show 0 * 2048 + 1 * (y 1).val = (y 1).val; omega

/-- the packed weights whole, -/
theorem iblk1_eq (c : Dev nD) (t : Fin cfg0.N) : (iblk m c 1 t : Vec Ideal S2048x4096 .i8) = wArr m c := by
  funext y
  unfold iblk
  rw [View.read_apply]
  show V m c main_arg1 _ = V m c main_arg1 _
  congr 1
  funext a
  apply Fin.ext
  match a with
  | ⟨0, _⟩ => show 0 * 2048 + 1 * (y 0).val = (y 0).val; omega
  | ⟨1, _⟩ => show 0 * 4096 + 1 * (y 1).val = (y 1).val; omega

/-- and their scales. -/
theorem iblk2_eq (c : Dev nD) (t : Fin cfg0.N) : (iblk m c 2 t : Vec Ideal S64x8192 .i8) = sArr m c := by
  funext y
  unfold iblk
  rw [View.read_apply]
  show V m c main_arg2 _ = V m c main_arg2 _
  congr 1
  funext a
  apply Fin.ext
  match a with
  | ⟨0, _⟩ => show 0 * 64 + 1 * (y 0).val = (y 0).val; omega
  | ⟨1, _⟩ => show 0 * 8192 + 1 * (y 1).val = (y 1).val; omega

/-- The one step. -/
abbrev t₀ : Fin cfg0.N := ⟨0, by decide⟩

theorem flush3 : (cfg0.win 3).flush t₀ = true := by decide
theorem flush4 : (cfg0.win 4).flush t₀ = true := by decide
theorem flush5 : (cfg0.win 5).flush t₀ = true := by decide

theorem xinj3 (y : S16384x8192.Idx) : ((cfg0.win 3).xinj (grid0.coords t₀) y : S16384x8192.Idx) = y := by
  funext a
  exact Fin.ext rfl

theorem emb3 (y : S16384x8192.Idx) : ((cfg0.win 3).blk t₀).view.emb y = y := by
  funext a
  apply Fin.ext
  match a with
  | ⟨0, _⟩ => show 0 * 16384 + 1 * (y 0).val = (y 0).val; omega
  | ⟨1, _⟩ => show 0 * 8192 + 1 * (y 1).val = (y 1).val; omega

theorem xinj4 (y : S16384x2048.Idx) : ((cfg0.win 4).xinj (grid0.coords t₀) y : S16384x2048.Idx) = y := by
  funext a
  exact Fin.ext rfl

theorem emb4 (y : S16384x2048.Idx) : ((cfg0.win 4).blk t₀).view.emb y = y := by
  funext a
  apply Fin.ext
  match a with
  | ⟨0, _⟩ => show 0 * 16384 + 1 * (y 0).val = (y 0).val; omega
  | ⟨1, _⟩ => show 0 * 2048 + 1 * (y 1).val = (y 1).val; omega

theorem xinj5 (y : S64x2x128.Idx) : ((cfg0.win 5).xinj (grid0.coords t₀) y : S64x2x128.Idx) = y := by
  funext a
  exact Fin.ext rfl

theorem emb5 (y : S64x2x128.Idx) : ((cfg0.win 5).blk t₀).view.emb y = y := by
  funext a
  apply Fin.ext
  match a with
  | ⟨0, _⟩ => show 0 * 64 + 1 * (y 0).val = (y 0).val; omega
  | ⟨1, _⟩ => show 0 * 2 + 1 * (y 1).val = (y 1).val; omega
  | ⟨2, _⟩ => show 0 * 128 + 1 * (y 2).val = (y 2).val; omega

/-- The first result array is what the step leaves in its window. -/
theorem arr3 (c : Dev nD) (y : S16384x8192.Idx) :
    ((dats m 0 c).arrAt 3 cfg0.N : Vec Ideal S16384x8192 .bf16) y = out0_3 (F := Ideal) (xArr m c) (wArr m c) (sArr m c) y := by
  have h := congrFun (Value.blocks3 m c t₀ flush3) y
  rw [View.read_apply, Value.flushed3, iblk0_eq, iblk1_eq, iblk2_eq] at h
  rw [cast_eq] at h
  have h2 : (cfg0.win 3).cut (grid0.coords t₀) (out0_3 (F := Ideal) (xArr m c) (wArr m c) (sArr m c)) y
      = out0_3 (F := Ideal) (xArr m c) (wArr m c) (sArr m c) ((cfg0.win 3).xinj (grid0.coords t₀) y) := by
    generalize out0_3 (F := Ideal) (xArr m c) (wArr m c) (sArr m c) = X
    rfl
  have h3 := h.trans h2
  rw [xinj3, emb3] at h3
  exact h3

theorem arr4 (c : Dev nD) (y : S16384x2048.Idx) :
    ((dats m 0 c).arrAt 4 cfg0.N : Vec Ideal S16384x2048 .fp8e4m3) y = out0_4 (F := Ideal) (xArr m c) (wArr m c) (sArr m c) y := by
  have h := congrFun (Value.blocks4 m c t₀ flush4) y
  rw [View.read_apply, Value.flushed4, iblk0_eq, iblk1_eq, iblk2_eq] at h
  rw [cast_eq] at h
  have h2 : (cfg0.win 4).cut (grid0.coords t₀) (out0_4 (F := Ideal) (xArr m c) (wArr m c) (sArr m c)) y
      = out0_4 (F := Ideal) (xArr m c) (wArr m c) (sArr m c) ((cfg0.win 4).xinj (grid0.coords t₀) y) := by
    generalize out0_4 (F := Ideal) (xArr m c) (wArr m c) (sArr m c) = X
    rfl
  have h3 := h.trans h2
  rw [xinj4, emb4] at h3
  exact h3

theorem arr5 (c : Dev nD) (y : S64x2x128.Idx) :
    ((dats m 0 c).arrAt 5 cfg0.N : Vec Ideal S64x2x128 .f32) y = out0_5 (F := Ideal) (xArr m c) (wArr m c) (sArr m c) y := by
  have h := congrFun (Value.blocks5 m c t₀ flush5) y
  rw [View.read_apply, Value.flushed5, iblk0_eq, iblk1_eq, iblk2_eq] at h
  rw [cast_eq] at h
  have h2 : (cfg0.win 5).cut (grid0.coords t₀) (out0_5 (F := Ideal) (xArr m c) (wArr m c) (sArr m c)) y
      = out0_5 (F := Ideal) (xArr m c) (wArr m c) (sArr m c) ((cfg0.win 5).xinj (grid0.coords t₀) y) := by
    generalize out0_5 (F := Ideal) (xArr m c) (wArr m c) (sArr m c) = X
    rfl
  have h3 := h.trans h2
  rw [xinj5, emb5] at h3
  exact h3

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem Cert.Kernel

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's reshaped activations are the reshape of its first argument. -/
theorem xArr_kernel (c : Dev Cert.KernelIdeal.nD) : KernelIdeal.Hand.xArr m c
    = shapeCast KernelIdeal.S16384x2048 (m ((c.tc : Thread Cert.KernelIdeal.nD Cert.KernelIdeal.τ).loc Cert.KernelIdeal.main_arg0))
        KernelIdeal.Gen.facts.shapeCasts_S4x4096x2048_S16384x2048 := by
  rfl

/-- So are the reference's. -/
theorem xArr_reference (c : Dev Cert.ReferenceIdeal.nD) : ReferenceIdeal.Hand.xArr m' c
    = shapeCast KernelIdeal.S16384x2048 (m' ((c.tc : Thread Cert.ReferenceIdeal.nD Cert.ReferenceIdeal.τ).loc Cert.ReferenceIdeal.main_arg0))
        KernelIdeal.Gen.facts.shapeCasts_S4x4096x2048_S16384x2048 := by
  rfl

end Agree

/-- The two programs end with equal results: every entry of each is the same expression in the rows of the
    activations, the packed weights and their scales. -/
theorem algebraic : Cert.algebraic_KernelIdeal_ReferenceIdeal := by
  intro m ρ m' ρ' _ hag
  have hx (c : Dev Cert.KernelIdeal.nD) : ReferenceIdeal.Hand.xArr m' c = KernelIdeal.Hand.xArr m c := by
    rw [xArr_kernel, xArr_reference, (hag c).1]
  have hw (c : Dev Cert.KernelIdeal.nD) : ReferenceIdeal.Hand.wArr m' c = KernelIdeal.Hand.wArr m c :=
    (ReferenceIdeal.Gen.V_main_arg1 m' c).trans ((hag c).2.1.trans (KernelIdeal.Gen.V_main_arg1 m c).symm)
  have hs (c : Dev Cert.KernelIdeal.nD) : ReferenceIdeal.Hand.sArr m' c = KernelIdeal.Hand.sArr m c :=
    (ReferenceIdeal.Gen.V_main_arg2 m' c).trans ((hag c).2.2.trans (KernelIdeal.Gen.V_main_arg2 m c).symm)
  refine ⟨fun c => KernelIdeal.Value.G3 m c, fun c => KernelIdeal.Value.G4 m c, fun c => KernelIdeal.Value.G5 m c,
    KernelIdeal.Value.run m ρ, ?_⟩
  refine (θ_run Cert.ReferenceIdeal.defs _ _).mono (fun r h c => ?_) (ReferenceIdeal.Value.run_blocks m' ρ')
  obtain ⟨h3, h4, h5, ha⟩ := h c
  refine ⟨h3.trans ?_, h4.trans ?_, h5.trans ?_, ha⟩
  · funext y
    refine (ReferenceIdeal.Hand.arr3 m' c y).trans ?_
    rw [hx, hw, hs]
    obtain ⟨r, j, rfl⟩ : ∃ (r : Fin 16384) (j : Fin 8192), y = ix2 r j := ⟨y 0, y 1, eq_ix2 y⟩
    exact (ReferenceIdeal.Hand.y_out _ _ _ r j).trans (KernelIdeal.Hand.G3_at m c r j).symm
  · funext y
    refine (ReferenceIdeal.Hand.arr4 m' c y).trans ?_
    rw [hx, hw, hs]
    obtain ⟨r, j, rfl⟩ : ∃ (r : Fin 16384) (j : Fin 2048), y = ix2 r j := ⟨y 0, y 1, eq_ix2 y⟩
    exact (ReferenceIdeal.Hand.codes_out _ _ _ r j).trans (KernelIdeal.Hand.G4_at m c r j).symm
  · funext y
    refine (ReferenceIdeal.Hand.arr5 m' c y).trans ?_
    rw [hx, hw, hs]
    obtain ⟨t, r, u, rfl⟩ : ∃ (t : Fin 64) (r : Fin 2) (u : Fin 128), y = ix3 t r u := ⟨y 0, y 1, y 2, eq_ix3 y⟩
    exact (ReferenceIdeal.Hand.scales_out _ _ _ t r u).trans (KernelIdeal.Hand.G5_at m c t r u).symm

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, fun m ρ _ => Cert.ReferenceIdeal.Gen.frame m ρ, trivial, algebraic⟩⟩

end Cert.Proof

end
